-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 8192]⟩ ⟨2, ![8192, 8192]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 512]⟩ ⟨2, ![8192, 4096]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.block ⟨2, ![8192, 512]⟩ ⟨2, ![8192, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x8192 : Shape := ⟨2, ![1024, 8192]⟩
abbrev S8192x512 : Shape := ⟨2, ![8192, 512]⟩
abbrev S8192x8192 : Shape := ⟨2, ![8192, 8192]⟩
abbrev S_ : Shape := ⟨0, ![]⟩
abbrev S7 : Shape := ⟨1, ![7]⟩
abbrev S1 : Shape := ⟨1, ![1]⟩
abbrev S512x8192 : Shape := ⟨2, ![512, 8192]⟩
abbrev S16384x512 : Shape := ⟨2, ![16384, 512]⟩

abbrev nBuf : Space → Nat
  | .hbm => 54
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S8192x512, .f32⟩
  | .hbm, ⟨2, _⟩ => ⟨S1024x8192, .bf16⟩
  | .hbm, ⟨3, _⟩ => ⟨S8192x8192, .bf16⟩
  | .hbm, ⟨4, _⟩ => ⟨S8192x512, .bf16⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1, .i32⟩
  | .hbm, ⟨24, _⟩ => ⟨S1, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i1⟩
  | .hbm, ⟨40, _⟩ => ⟨S_, .i1⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S16384x512, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S8192x512, .f32⟩
  | _, _ => ⟨S1024x8192, .f32⟩

abbrev bufScoped : (cs : CoreSpace) → Fin (nBuf (.core cs)) → Bool
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_c : Ref sig .tc := ⟨.hbm, 26, rfl⟩
abbrev main_call0_c_0 : Ref sig .tc := ⟨.hbm, 27, rfl⟩
abbrev main_call0_v3 : Ref sig .tc := ⟨.hbm, 28, rfl⟩
abbrev main_call0_call0_c : Ref sig .tc := ⟨.hbm, 29, rfl⟩
abbrev main_call0_call0_v0 : Ref sig .tc := ⟨.hbm, 30, rfl⟩
abbrev main_call0_call0_c_0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_c_1 : Ref sig .tc := ⟨.hbm, 34, rfl⟩
abbrev main_call0_call0_v3 : Ref sig .tc := ⟨.hbm, 35, rfl⟩
abbrev main_call0_call0_c_2 : Ref sig .tc := ⟨.hbm, 36, rfl⟩
abbrev main_call0_call0_v4 : Ref sig .tc := ⟨.hbm, 37, rfl⟩
abbrev main_call0_call0_c_3 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_v6 : Ref sig .tc := ⟨.hbm, 46, rfl⟩
abbrev main_call0_c_2 : Ref sig .tc := ⟨.hbm, 47, rfl⟩
abbrev main_call0_v7 : Ref sig .tc := ⟨.hbm, 48, rfl⟩
abbrev main_call0_c_3 : Ref sig .tc := ⟨.hbm, 49, rfl⟩
abbrev main_call0_v8 : Ref sig .tc := ⟨.hbm, 50, rfl⟩
abbrev main_call0_v9 : Ref sig .tc := ⟨.hbm, 51, rfl⟩
abbrev main_call0_c_4 : Ref sig .tc := ⟨.hbm, 52, rfl⟩
abbrev main_v17 : Ref sig .tc := ⟨.hbm, 53, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_16 : BitVec 32 := 1#32
  let v15 : BitVec 32 := Scalar.muli v4 c1_i32_16
  let v16 : BitVec 32 := Scalar.addi c0_i32_17 v15
  v16.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_23 : BitVec 32 := 1#32
  let v23 : BitVec 32 := Scalar.muli v7 c1_i32_23
  let v24 : BitVec 32 := Scalar.addi c0_i32_24 v23
  v24.toNat
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_59 : BitVec 32 := 1#32
  let v51 : BitVec 32 := Scalar.muli v4 c1_i32_59
  let v52 : BitVec 32 := Scalar.addi c0_i32_60 v51
  v52.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_66 : BitVec 32 := 1#32
  let v59 : BitVec 32 := Scalar.muli v7 c1_i32_66
  let v60 : BitVec 32 := Scalar.addi c0_i32_67 v59
  v60.toNat
def k0_dev7 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_103 : BitVec 32 := 1#32
  let v87 : BitVec 32 := Scalar.muli v4 c1_i32_103
  let v88 : BitVec 32 := Scalar.addi c0_i32_104 v87
  v88.toNat
def k0_dev8 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_110 : BitVec 32 := 1#32
  let v95 : BitVec 32 := Scalar.muli v7 c1_i32_110
  let v96 : BitVec 32 := Scalar.addi c0_i32_111 v95
  v96.toNat
def k0_dev9 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_146 : BitVec 32 := 1#32
  let v123 : BitVec 32 := Scalar.muli v4 c1_i32_146
  let v124 : BitVec 32 := Scalar.addi c0_i32_147 v123
  v124.toNat
def k0_dev10 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_153 : BitVec 32 := 1#32
  let v131 : BitVec 32 := Scalar.muli v7 c1_i32_153
  let v132 : BitVec 32 := Scalar.addi c0_i32_154 v131
  v132.toNat
def k0_dev11 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_189 : BitVec 32 := 1#32
  let v159 : BitVec 32 := Scalar.muli v4 c1_i32_189
  let v160 : BitVec 32 := Scalar.addi c0_i32_190 v159
  v160.toNat
def k0_dev12 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_196 : BitVec 32 := 1#32
  let v167 : BitVec 32 := Scalar.muli v7 c1_i32_196
  let v168 : BitVec 32 := Scalar.addi c0_i32_197 v167
  v168.toNat
def k0_dev13 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_232 : BitVec 32 := 1#32
  let v195 : BitVec 32 := Scalar.muli v4 c1_i32_232
  let v196 : BitVec 32 := Scalar.addi c0_i32_233 v195
  v196.toNat
def k0_dev14 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_239 : BitVec 32 := 1#32
  let v203 : BitVec 32 := Scalar.muli v7 c1_i32_239
  let v204 : BitVec 32 := Scalar.addi c0_i32_240 v203
  v204.toNat
def k0_dev15 (d0 : Dev nD) : Nat :=
  let c0_i32_276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_275 : BitVec 32 := 1#32
  let v231 : BitVec 32 := Scalar.muli v4 c1_i32_275
  let v232 : BitVec 32 := Scalar.addi c0_i32_276 v231
  v232.toNat
def k0_dev16 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_282 : BitVec 32 := 1#32
  let v239 : BitVec 32 := Scalar.muli v7 c1_i32_282
  let v240 : BitVec 32 := Scalar.addi c0_i32_283 v239
  v240.toNat
-- ==== ReferenceIdeal.lean ====
abbrev S8192x8192 : Shape := ⟨2, ![8192, 8192]⟩
abbrev S8192x4096 : Shape := ⟨2, ![8192, 4096]⟩

abbrev nBuf : Space → Nat
  | .hbm => 4
  | .vmem => 2
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .local _ .vmem, ⟨0, _⟩ => ⟨S8192x4096, .f32⟩
  | .local _ .vmem, ⟨1, _⟩ => ⟨S8192x4096, .f32⟩
  | _, _ => ⟨S8192x8192, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F] [Named F]

def κ : String → Option EReal := fun
  | "hi" => some ⊤
  | "lo" => some ⊥
  | _ => none

abbrev grid0 : Pipeline.Grid := .none

abbrev stage0_0 : Fin 1 → Memref sig .tc .vmem S8192x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Body.lean ====
/-
  The kernel's body said again over two indices: a direction (false: to the next device and into ever lower slots; true: to the device before and into ever higher slots)
  and a hop 0..6. The printed body is this program, by unfolding.
-/
module

public import proofs.«01_k».proof.Proof.Gen.KernelIdeal.Launch
public import proofs.«01_k».proof.Proof.Gen.KernelIdeal.Regions
public import proofs.«01_k».proof.Proof.Gen.KernelIdeal.Points

@[expose] public section

noncomputable section

namespace Cert.KernelIdeal.Run

open Idealize.ShloMosaic Idealize.ShloMosaic.TcCoe
open Idealize.SL Idealize.SL.Sem
open Cert.KernelIdeal.Gen

variable {F : FTy → Type} [FloatOps F]

/-! ## Directions, hops, slots -/

/-- The device a hop in direction d sends to. -/
def nxt (d : Bool) (c : Dev nD) : Dev nD := ⟨(c.val + cond d 7 1) % 8, Nat.mod_lt _ (by decide)⟩

/-- Going one way and then the other is staying. -/
theorem nxt_nxt (d : Bool) (c : Dev nD) : nxt (!d) (nxt d c) = c := by revert d c; decide

/-- The slot, in direction d, of the chunk that has made k hops. -/
def slot (d : Bool) (k : Fin 8) : Fin 8 := cond d k ⟨(8 - k.val) % 8, Nat.mod_lt _ (by decide)⟩

/-- First row of slot j's half for direction d: 512 rows a half, 1024 a slot. -/
def row (j : Fin 8) (d : Bool) : ℕ := 1024 * j.val + cond d 512 0

/-- A half slot lies inside the gathered array. -/
theorem row_inb (j : Fin 8) (d : Bool) : ∀ a, (![row j d, 0] : Fin 2 → Nat) a + S512x8192.size a ≤ S8192x8192.size a := by revert j d; decide

/-- A half slot's rectangle. -/
abbrev rect (j : Fin 8) (d : Bool) : Rect S8192x8192 := Rect.unit (s := S8192x8192) ![row j d, 0] S512x8192.size (row_inb j d)

/-- A half slot is whole words. -/
theorem rect_words (j : Fin 8) (d : Bool) : (rect j d).WholeWords (EltTy.packing .bf16) := by revert j d; decide

/-- The gathered array. -/
abbrev gM : Memref sig .tc .hbm S8192x8192 .bf16 := Memref.whole main_v2
/-- The device's own chunk. -/
abbrev xM : Memref sig .tc .hbm S1024x8192 .bf16 := Memref.whole main_v1

/-- Slot j's half for direction d. -/
abbrev blk (j : Fin 8) (d : Bool) : Memref sig .tc .hbm S512x8192 .bf16 := gM.slice (rect j d) (fun _ => rfl)

/-- Slot 0 whole: where the device's own chunk goes. -/
abbrev seedM : Memref sig .tc .hbm S1024x8192 .bf16 :=
  gM.slice (Rect.unit (s := S8192x8192) ![0, 0] S1024x8192.size inb_S8192x8192_S1024x8192_0_0) (fun _ => rfl)

/-- The half slot hop h reads, on the sender. -/
abbrev srcB (d : Bool) (h : Fin 7) : Memref sig .tc .hbm S512x8192 .bf16 := blk (slot d h.castSucc) d
/-- The half slot hop h writes, on the receiver. -/
abbrev dstB (d : Bool) (h : Fin 7) : Memref sig .tc .hbm S512x8192 .bf16 := blk (slot d h.succ) d

/-- A half slot's ends are whole words. -/
theorem blk_words (j : Fin 8) (d : Bool) : (blk j d).view.WordExact := (Memref.isWhole_whole _).wordExact_slice rfl _ (rect_words j d)
/-- Slot 0's ends are whole words. -/
theorem seedM_words : seedM.view.WordExact := (Memref.isWhole_whole _).wordExact_slice rfl _ wordsbf16_S8192x8192_S1024x8192_0_0
/-- The own chunk's ends are whole words. -/
theorem xM_words : xM.view.WordExact := (Memref.isWhole_whole _).wordExact

/-! ## Semaphores -/

/-- The semaphore of the copy that seeds slot 0. -/
abbrev seedS : DmaSem sig := ⟨0, by decide⟩
/-- The send semaphore of hop h in direction d. -/
def sndS (d : Bool) (h : Fin 7) : DmaSem sig := ⟨cond d 15 1 + h.val, by have := h.isLt; show _ < 29; cases d <;> simp only [cond] <;> omega⟩
/-- The receive semaphore of hop h in direction d. -/
def rcvS (d : Bool) (h : Fin 7) : DmaSem sig := ⟨cond d 22 8 + h.val, by have := h.isLt; show _ < 29; cases d <;> simp only [cond] <;> omega⟩

/-! ## The program -/

/-- One hop's remote copy in direction d, to device t. -/
def send (d : Bool) (h : Fin 7) (t : Dev nD) : Prog (TpuEff nD τ sig (Elt F) Λ₀ .tc) PUnit :=
  Prog.lift (.enqueueDma (srcB d h) (.remote (Dev.tc t) (dstB d h) (.dma (sndS d h))) (.dma (rcvS d h)) (blk_words _ _) (blk_words _ _) ⟨⟨rfl, Or.inl rfl⟩, trivial⟩)

/-- The sender's wait for its own copy of hop h, the operands in the printed order. -/
def waitSnd (d : Bool) (h : Fin 7) : Prog (TpuEff nD τ sig (Elt F) Λ₀ .tc) PUnit :=
  Prog.lift (.waitDma2 (sndS d h) (dstB d h) (srcB d h) (blk_words _ _) (blk_words _ _))

/-- The receiver's wait for the chunk hop h brings. -/
def waitRcv (d : Bool) (h : Fin 7) : Prog (TpuEff nD τ sig (Elt F) Λ₀ .tc) PUnit :=
  Prog.lift (.waitDma2 (rcvS d h) (srcB d h) (dstB d h) (blk_words _ _) (blk_words _ _))

/-- One hop: both sends, then the four waits. -/
def hop (h : Fin 7) (t : Bool → Dev nD) : Prog (TpuEff nD τ sig (Elt F) Λ₀ .tc) PUnit := do
  send false h (t false)
  send true h (t true)
  waitSnd false h
  waitRcv false h
  waitSnd true h
  waitRcv true h

/-- The device hop h's copy in direction d names, as the body computes it. -/
def tgt (c : Dev nD) (h : Fin 7) (d : Bool) : Dev nD :=
  match h, d with
  | 0, false => ⟨k0_dev3 c, k0_dev3_lt c⟩
  | 0, true => ⟨k0_dev4 c, k0_dev4_lt c⟩
  | 1, false => ⟨k0_dev5 c, k0_dev5_lt c⟩
  | 1, true => ⟨k0_dev6 c, k0_dev6_lt c⟩
  | 2, false => ⟨k0_dev7 c, k0_dev7_lt c⟩
  | 2, true => ⟨k0_dev8 c, k0_dev8_lt c⟩
  | 3, false => ⟨k0_dev9 c, k0_dev9_lt c⟩
  | 3, true => ⟨k0_dev10 c, k0_dev10_lt c⟩
  | 4, false => ⟨k0_dev11 c, k0_dev11_lt c⟩
  | 4, true => ⟨k0_dev12 c, k0_dev12_lt c⟩
  | 5, false => ⟨k0_dev13 c, k0_dev13_lt c⟩
  | 5, true => ⟨k0_dev14 c, k0_dev14_lt c⟩
  | 6, false => ⟨k0_dev15 c, k0_dev15_lt c⟩
  | 6, true => ⟨k0_dev16 c, k0_dev16_lt c⟩

/-- The named devices are the neighbours. -/
theorem tgt_eq (c : Dev nD) (h : Fin 7) : tgt c h = fun d => nxt d c := by
  funext d
  fin_cases h <;> cases d <;> refine Fin.ext ?_
  · exact k0_dev3_eq c
  · exact k0_dev4_eq c
  · exact k0_dev5_eq c
  · exact k0_dev6_eq c
  · exact k0_dev7_eq c
  · exact k0_dev8_eq c
  · exact k0_dev9_eq c
  · exact k0_dev10_eq c
  · exact k0_dev11_eq c
  · exact k0_dev12_eq c
  · exact k0_dev13_eq c
  · exact k0_dev14_eq c
  · exact k0_dev15_eq c
  · exact k0_dev16_eq c

/-- The two entry signals and the wait for both neighbours'. -/
def entry (l r : Dev nD) : Prog (TpuEff nD τ sig (Elt F) Λ₀ .tc) PUnit := do
  semSignalWord l barrier0 1#32
  semSignalWord r barrier0 1#32
  semWaitWord barrier0 2#32

/-- The device's own chunk copied into slot 0. -/
def seed : Prog (TpuEff nD τ sig (Elt F) Λ₀ .tc) PUnit := do
  Prog.lift (.enqueueDma xM (.here seedM) (.dma seedS) xM_words seedM_words ⟨Or.inl rfl, trivial⟩)
  Prog.lift (.waitDma2 seedS xM seedM xM_words seedM_words)

/-- The kernel's body. -/
def body : Prog (TpuEff nD τ sig (Elt F) Λ₀ .tc) PUnit := do
  let c ← Prog.lift .deviceId
  entry ⟨k0_dev1 c, k0_dev1_lt c⟩ ⟨k0_dev2 c, k0_dev2_lt c⟩
  seed
  hop 0 (tgt c 0)
  hop 1 (tgt c 1)
  hop 2 (tgt c 2)
  hop 3 (tgt c 3)
  hop 4 (tgt c 4)
  hop 5 (tgt c 5)
  hop 6 (tgt c 6)

set_option maxRecDepth 65536 in
/-- What the launch calls is the program above. -/
theorem body_eq (t : Fin cfg0.N) : bodyAt0 (F := F) t = body := rfl

end Cert.KernelIdeal.Run

end
-- ==== Proof.Contents.lean ====
/-
  What the gathered array holds, and the element sets of its half slots: a copy of one hop takes the right contents of a half slot on the sender to the right
  contents of the next half slot on the receiver, and the sixteen half slots are the array.
-/
module

public import proofs.«01_k».proof.Proof.Body
public import Idealize.ShloMosaic.Lib.Ring

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type}

/-- Every device's own chunk. -/
abbrev Chunks (F : FTy → Type) : Type := (c : Dev nD) → Buf (Elt F) ((c : Thread nD τ).loc main_v1)

variable (x : Chunks F)

/-- The device whose chunk device c's slot j holds. -/
def owner (c : Dev nD) (j : ℕ) : Dev nD := ⟨(c.val + j) % 8, Nat.mod_lt _ (by decide)⟩

/-- The gathered array of device c: row r is row r % 1024 of the chunk of device c + r / 1024. -/
def gath (c : Dev nD) : Buf (Elt F) ((c : Thread nD τ).loc main_v2) := fun i =>
  x (owner c ((i 0).val / 1024)) (Shape.pair (d := ![1024, 8192]) ⟨(i 0).val % 1024, Nat.mod_lt _ (by decide)⟩ (i 1))

/-- An element of the gathered array, from its device, row in the chunk and column. -/
theorem gath_eq (c e : Dev nD) (i : S8192x8192.Idx) (y : S1024x8192.Idx) (h0 : owner c ((i 0).val / 1024) = e) (h1 : (i 0).val % 1024 = (y 0).val) (h2 : (i 1).val = (y 1).val) :
    gath x c i = x e y := by
  subst h0
  refine congrArg (x _) ?_
  refine Eq.trans ?_ (Shape.pair_eta (d := ![1024, 8192]) y)
  exact congrArg₂ (Shape.pair (d := ![1024, 8192])) (Fin.ext h1) (Fin.ext h2)

/-- Slot after slot along direction d, from neighbour to neighbour, the owner is the same. -/
theorem owner_next (d : Bool) (h : Fin 7) (c : Dev nD) : owner (nxt d c) (slot d h.succ).val = owner c (slot d h.castSucc).val := by
  revert d h c; decide

/-- Slot 0 is the device's own. -/
theorem owner_zero (c : Dev nD) : owner c 0 = c := by revert c; decide

/-- Rows of slot j's half lie in slot j. -/
theorem row_div (j : Fin 8) (d : Bool) (r : ℕ) (h : r < 512) : (row j d + r) / 1024 = j.val := by unfold row; cases d <;> simp only [cond] <;> omega
/-- A row's place in its slot. -/
theorem row_mod (j : Fin 8) (d : Bool) (r : ℕ) (h : r < 512) : (row j d + r) % 1024 = cond d 512 0 + r := by unfold row; cases d <;> simp only [cond] <;> omega

/-- A half slot's element in row and column coordinates: the row. -/
theorem blk_emb0 (j : Fin 8) (d : Bool) (y : S512x8192.Idx) : ((((blk j d).view.emb y) : S8192x8192.Idx) 0).val = row j d + (y 0).val :=
  (congrArg (row j d + ·) (Nat.one_mul _) :)
/-- … and the column. -/
theorem blk_emb1 (j : Fin 8) (d : Bool) (y : S512x8192.Idx) : ((((blk j d).view.emb y) : S8192x8192.Idx) 1).val = (y 1).val :=
  ((Nat.zero_add _).trans (Nat.one_mul _) :)

/-- What hop h in direction d lands is what the receiver's gathered array holds there. -/
theorem landed (c : Dev nD) (d : Bool) (h : Fin 7) (fd : Buf (Elt F) ((dstB d h).view.loc (nxt d c : Thread nD τ))) :
    ∀ i ∈ (dstB d h).view.set, (dstB d h).view.write (Elt F) fd ((srcB d h).view.read (Elt F) (gath x c)) Finset.univ i = gath x (nxt d c) i := by
  intro i hi
  obtain ⟨y, -, rfl⟩ := Finset.mem_map.mp hi
  rw [View.write_emb_of_mem _ _ (Finset.mem_univ _), View.read_apply]
  have hy : (y 0).val < 512 := (y 0).isLt
  refine Eq.trans (b := gath x c ((srcB d h).view.emb y)) rfl ?_
  refine (gath_eq x c _ _ (Shape.pair (d := ![1024, 8192]) ⟨cond d 512 0 + (y 0).val, ?_⟩ (y 1)) rfl ?_ ?_).trans (gath_eq x (nxt d c) _ _ _ ?_ ?_ ?_).symm
  · show _ < 1024; cases d <;> simp only [cond] <;> omega
  · rw [blk_emb0, row_mod _ _ _ hy]; rfl
  · exact blk_emb1 _ _ _
  · rw [blk_emb0, blk_emb0, row_div _ _ _ hy, row_div _ _ _ hy, owner_next]
  · rw [blk_emb0, row_mod _ _ _ hy]; rfl
  · exact blk_emb1 _ _ _

/-- What the seeding copy lands is what the gathered array holds in slot 0. -/
theorem seeded (c : Dev nD) (fd : Buf (Elt F) (seedM.view.loc (c : Thread nD τ))) :
    ∀ i ∈ seedM.view.set, seedM.view.write (Elt F) fd (xM.view.read (Elt F) (x c)) Finset.univ i = gath x c i := by
  intro i hi
  obtain ⟨y, -, rfl⟩ := Finset.mem_map.mp hi
  rw [View.write_emb_of_mem _ _ (Finset.mem_univ _), View.read_apply]
  have hy : (y 0).val < 1024 := (y 0).isLt
  have e0 : (((seedM.view.emb y) : S8192x8192.Idx) 0).val = (y 0).val := ((Nat.zero_add _).trans (Nat.one_mul _) :)
  have e1 : (((seedM.view.emb y) : S8192x8192.Idx) 1).val = (y 1).val := ((Nat.zero_add _).trans (Nat.one_mul _) :)
  refine Eq.trans (b := x c y) rfl ?_
  refine (gath_eq x c c _ y ?_ ?_ e1).symm
  · rw [e0, Nat.div_eq_of_lt hy]; exact owner_zero c
  · rw [e0, Nat.mod_eq_of_lt hy]

/-! ## The half slots' element sets -/

/-- The elements of slot j's half for direction d. -/
abbrev half (j : Fin 8) (d : Bool) : Finset S8192x8192.Idx := (blk j d).view.set

/-- Slot 0's halves begin at rows 0 and 512. -/
theorem row_zero (d : Bool) : row 0 d = cond d 512 0 := Nat.zero_add _

/-- Membership of a half slot: by rows. -/
theorem mem_blk (j : Fin 8) (d : Bool) (i : S8192x8192.Idx) : i ∈ (blk j d).view.set ↔ row j d ≤ (i 0).val ∧ (i 0).val < row j d + 512 := by
  show i ∈ ((View.whole main_v2).slice (rect j d)).set ↔ _
  rw [View.set_slice_whole]
  refine Rect.mem_set_unit.trans ⟨fun h => h 0, fun h a => ?_⟩
  fin_cases a
  · exact h
  · exact ⟨Nat.zero_le _, (Nat.zero_add 8192).symm ▸ (i 1).isLt⟩

/-- Membership of slot 0: by rows. -/
theorem mem_seed (i : S8192x8192.Idx) : i ∈ seedM.view.set ↔ (i 0).val < 1024 := by
  show i ∈ ((View.whole main_v2).slice (Rect.unit (s := S8192x8192) ![0, 0] S1024x8192.size inb_S8192x8192_S1024x8192_0_0)).set ↔ _
  rw [View.set_slice_whole]
  refine Rect.mem_set_unit.trans ⟨fun h => (Nat.zero_add 1024) ▸ (h 0).2, fun h a => ?_⟩
  fin_cases a
  · exact ⟨Nat.zero_le _, (Nat.zero_add 1024).symm ▸ h⟩
  · exact ⟨Nat.zero_le _, (Nat.zero_add 8192).symm ▸ (i 1).isLt⟩

/-- Different half slots share no element. -/
theorem blk_disjoint (p q : Fin 8 × Bool) (h : p ≠ q) : Disjoint (blk p.1 p.2).view.set (blk q.1 q.2).view.set := by
  refine Finset.disjoint_left.mpr fun (i : S8192x8192.Idx) hi hj => h ?_
  obtain ⟨⟨j, hj⟩, d⟩ := p
  obtain ⟨⟨k, hk⟩, e⟩ := q
  have a := (mem_blk _ _ i).mp hi
  have b := (mem_blk _ _ i).mp hj
  unfold row at a b
  have : j = k ∧ d = e := by cases d <;> cases e <;> simp only [cond, and_true, and_false, reduceCtorEq] at a b ⊢ <;> omega
  obtain ⟨rfl, rfl⟩ := this
  rfl

/-- The half slots are the whole array. -/
theorem blk_cover : (Finset.univ : Finset (Fin 8 × Bool)).biUnion (fun p => half p.1 p.2) = Finset.univ := by
  refine Finset.eq_univ_iff_forall.mpr fun (i : S8192x8192.Idx) => Finset.mem_biUnion.mpr ?_
  have hi : (i 0).val < 8192 := (i 0).isLt
  refine ⟨(⟨(i 0).val / 1024, by omega⟩, decide (512 ≤ (i 0).val % 1024)), Finset.mem_univ _, (mem_blk _ _ i).mpr ?_⟩
  by_cases h : 512 ≤ (i 0).val % 1024 <;> simp only [row, h, decide_true, decide_false, cond] <;> omega

/-- Slot 0 is its two halves. -/
theorem seed_cover : (Finset.univ : Finset Bool).biUnion (fun d => half 0 d) = seedM.view.set := by
  refine Finset.ext fun (i : S8192x8192.Idx) => Finset.mem_biUnion.trans ?_
  refine Iff.trans ?_ (mem_seed i).symm
  constructor
  · rintro ⟨d, -, h⟩
    have := (mem_blk _ _ i).mp h
    rw [row_zero] at this; cases d <;> simp only [cond] at this <;> omega
  · intro h
    refine ⟨decide (512 ≤ (i 0).val), Finset.mem_univ _, (mem_blk _ _ i).mpr ?_⟩
    rw [row_zero]
    by_cases h' : 512 ≤ (i 0).val
    · rw [decide_eq_true h']; exact ⟨h', h⟩
    · rw [decide_eq_false h']; exact ⟨Nat.zero_le _, Nat.lt_of_not_le h'⟩

end Cert.KernelIdeal.Run

end
-- ==== Proof.Ring.lean ====
/-
  The protocol of the kernel's semaphores: what each cell is paid, by whom, with what; what every core owes; the levels of the waits.
-/
module

public import proofs.«01_k».proof.Proof.Contents
public import Idealize.ShloMosaic.Lib.Pipeline.Kit
public import Idealize.ShloMosaic.Lib.Rounds
public import Idealize.ShloMosaic.Lib.Tactic
public import Idealize.ShloMosaic.Lib.Pipeline.RegionTalk

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type}

/-- The pipeline library's resources and the ring's: a duty of the ring is named by a direction. -/
abbrev UU : Type := UR sig nD τ × URounds (GSem nD τ sig) Bool

local notation "𝕄" => MT nD τ sig Unit (Elt F) ℕ UU ℕ

/-- Where the pipeline library's resources stand. -/
abbrev EP : Emb (UR sig nD τ) (MT nD τ sig Unit (Elt F) ℕ UU ℕ) := embL
/-- Where the ring's resources stand. -/
abbrev ER : Emb (URounds (GSem nD τ sig) Bool) (MT nD τ sig Unit (Elt F) ℕ UU ℕ) := embR

variable (x : Chunks F)

/-! ## Cells -/

/-- What a DMA semaphore is for. -/
inductive Use
  | seed
  | snd (d : Bool) (h : Fin 7)
  | rcv (d : Bool) (h : Fin 7)
  deriving DecidableEq

/-- A DMA semaphore's use, from its number. -/
def use (s : DmaSem sig) : Use :=
  if s.val = 0 then .seed
  else if s.val < 8 then .snd false ⟨(s.val - 1) % 7, Nat.mod_lt _ (by decide)⟩
  else if s.val < 15 then .rcv false ⟨(s.val - 8) % 7, Nat.mod_lt _ (by decide)⟩
  else if s.val < 22 then .snd true ⟨(s.val - 15) % 7, Nat.mod_lt _ (by decide)⟩
  else .rcv true ⟨(s.val - 22) % 7, Nat.mod_lt _ (by decide)⟩

/-- The seeding copy's semaphore. -/
theorem use_seed : use seedS = .seed := rfl
/-- A send semaphore. -/
theorem use_snd (d : Bool) (h : Fin 7) : use (sndS d h) = .snd d h := by revert d h; decide
/-- A receive semaphore. -/
theorem use_rcv (d : Bool) (h : Fin 7) : use (rcvS d h) = .rcv d h := by revert d h; decide

/-- Device c's barrier cell. -/
abbrev barC (c : Dev nD) : GSem nD τ sig := ((c : Thread nD τ), .reg barrier0)
/-- Device c's cell of the seeding copy. -/
abbrev seedC (c : Dev nD) : GSem nD τ sig := ((c : Thread nD τ), .dma seedS)
/-- Device c's send cell of hop h in direction d. -/
abbrev sndC (d : Bool) (h : Fin 7) (c : Dev nD) : GSem nD τ sig := ((c : Thread nD τ), .dma (sndS d h))
/-- Device c's receive cell of hop h in direction d. -/
abbrev rcvC (d : Bool) (h : Fin 7) (c : Dev nD) : GSem nD τ sig := ((c : Thread nD τ), .dma (rcvS d h))

/-- A half slot's credit. -/
def NH : ℕ := (blk 0 false).view.dmaCredit
/-- A whole slot's credit. -/
def NS : ℕ := seedM.view.dmaCredit
/-- A half slot's credit is positive. -/
theorem NH_pos : 0 < NH := View.dmaCredit_pos _ (by decide)
/-- A slot's credit is positive. -/
theorem NS_pos : 0 < NS := View.dmaCredit_pos _ (by decide)

/-! ## What is held of the arrays -/

/-- Device c's slot j, direction d's half, at contents f. -/
abbrev bp (c : Dev nD) (j : Fin 8) (d : Bool) (f : Buf (Elt F) ((blk j d).view.loc (c : Thread nD τ))) : sProp 𝕄 :=
  (blk j d).view.loc (c : Thread nD τ) ↦[(blk j d).view.set]{fullShare} f
/-- Device c's slot 0 at contents f. -/
abbrev sp (c : Dev nD) (f : Buf (Elt F) (seedM.view.loc (c : Thread nD τ))) : sProp 𝕄 :=
  seedM.view.loc (c : Thread nD τ) ↦[seedM.view.set]{fullShare} f
/-- Device c's own chunk. -/
abbrev xp (c : Dev nD) : sProp 𝕄 := xM.view.loc (c : Thread nD τ) ↦[xM.view.set]{fullShare} (x c)

/-! ## The schedule -/

/-- A neighbour's signal on device c's barrier cell, for direction d: the half slots device c sends to in that direction, and that their receive cells are open. -/
def barPay (c : Dev nD) (d : Bool) : sProp 𝕄 :=
  bigSep Finset.univ fun h : Fin 7 => iprop((∃ f, bp (nxt d c) (slot d h.succ) d f) ∗ reached ER (rcvC d h (nxt d c)) 0)

/-- A copy's landing on the cell of a use: the seeding copy gives slot 0 and the chunk back, a send its source half, a receive the landed half. -/
def dmaPay (c : Dev nD) : Use → sProp 𝕄
  | .seed => iprop(sp c (gath x c) ∗ xp x c)
  | .snd d h => bp c (slot d h.castSucc) d (gath x c)
  | .rcv d h => bp c (slot d h.succ) d (gath x c)

/-- The units of a copy's landing. -/
def dmaAmt : Use → ℕ
  | .seed => NS
  | .snd _ _ => NH
  | .rcv _ _ => NH

/-- Who pays a semaphore in its one round: both neighbours the barrier, one copy each of the others. -/
def dutiesOf : SemLoc sig → Finset Bool
  | .reg _ => Finset.univ
  | .dma _ => {false}

/-- The units of one payment. -/
def amtOf : SemLoc sig → ℕ
  | .reg _ => 1
  | .dma s => dmaAmt (use s)

/-- What one payment hands over. -/
def payOf (c : Dev nD) (d : Bool) : SemLoc sig → sProp 𝕄
  | .reg _ => barPay c d
  | .dma s => dmaPay x c (use s)

/-- Every payment is of some units. -/
theorem amtOf_pos (s : SemLoc sig) : 0 < amtOf s := by
  cases s with
  | reg _ => exact Nat.one_pos
  | dma s =>
    show 0 < dmaAmt (use s)
    cases use s with
    | seed => exact NS_pos
    | snd => exact NH_pos
    | rcv => exact NH_pos

/-- One round on every cell of a TensorCore. -/
def ringRd : Rounds.Schedule (GSem nD τ sig) Bool 𝕄 where
  duties g r := if r = 0 ∧ g.1.2 = .tc then dutiesOf g.2 else ∅
  unitless _ := False
  amount g _ _ := amtOf g.2
  payload g _ d := payOf x g.1.1 d g.2
  amount_pos g _ _ _ := amtOf_pos g.2

/-- A finite family of storable assertions is storable. -/
theorem storable_bigSep {I : Type} [DecidableEq I] (s : Finset I) (Φ : I → sProp 𝕄) (h : ∀ i, BI.Storable (upEmb : UEmb _ 𝕄) (Φ i)) :
    BI.Storable (upEmb : UEmb _ 𝕄) (bigSep s Φ) := by
  induction s using Finset.induction_on with
  | empty => rw [bigSep_empty]; exact (inferInstance : BI.Storable (upEmb : UEmb _ 𝕄) (iprop(emp) : sProp 𝕄))
  | insert i s hi ih =>
    rw [bigSep_insert hi]
    haveI := h i
    exact (inferInstance : BI.Storable (upEmb : UEmb _ 𝕄) (iprop(Φ i ∗ bigSep s Φ) : sProp 𝕄))

instance ringRd_payload_storable (g : GSem nD τ sig) (r : ℕ) (d : Bool) : BI.Storable (upEmb : UEmb _ 𝕄) ((ringRd x).payload g r d) := by
  show BI.Storable upEmb (payOf x g.1.1 d g.2)
  cases g.2 with
  | reg _ =>
    show BI.Storable upEmb (barPay g.1.1 d)
    unfold barPay
    exact storable_bigSep _ _ fun h => inferInstance
  | dma s =>
    show BI.Storable upEmb (dmaPay x g.1.1 (use s))
    cases use s <;> unfold dmaPay <;> infer_instance

section Sched

variable (c : Dev nD) (d : Bool) (h : Fin 7)

/-- Who pays in round 0. -/
theorem duties_eq (s : SemLoc sig) : (ringRd x).duties ((c : Thread nD τ), s) 0 = dutiesOf s := by
  dsimp only [ringRd]; exact if_pos ⟨rfl, rfl⟩
/-- No one pays later. -/
theorem duties_later (g : GSem nD τ sig) : ∀ r, 1 ≤ r → (ringRd x).duties g r = ∅ := fun r hr => by
  dsimp only [ringRd]; exact if_neg fun h => by omega

/-- The units a wait for a whole round takes: the number of payers times the units. -/
theorem expect_eq (s : SemLoc sig) : (ringRd x).expect ((c : Thread nD τ), s) 0 = (dutiesOf s).card * amtOf s := by
  unfold Schedule.expect Schedule.amountOf
  rw [duties_eq]
  exact (Finset.sum_const _).trans (smul_eq_mul _ _)

/-- The barrier's round is two units. -/
theorem expect_bar : (ringRd x).expect (barC c) 0 = 2 := expect_eq x c _
/-- The seeding copy's round is a slot. -/
theorem expect_seed : (ringRd x).expect (seedC c) 0 = NS := (expect_eq x c _).trans (Nat.one_mul _)
/-- A send's units are a half slot's. -/
theorem amt_snd : amtOf (.dma (sndS d h)) = NH := by unfold amtOf; dsimp only; rw [use_snd]; rfl
/-- A receive's units are a half slot's. -/
theorem amt_rcv : amtOf (.dma (rcvS d h)) = NH := by unfold amtOf; dsimp only; rw [use_rcv]; rfl
/-- A send's round is a half slot. -/
theorem expect_snd : (ringRd x).expect (sndC d h c) 0 = NH := (expect_eq x c _).trans ((Nat.one_mul _).trans (amt_snd d h))
/-- A receive's round is a half slot. -/
theorem expect_rcv : (ringRd x).expect (rcvC d h c) 0 = NH := (expect_eq x c _).trans ((Nat.one_mul _).trans (amt_rcv d h))

/-- What a send's landing gives back. -/
theorem pay_snd (e : Bool) : (ringRd x).payload (sndC d h c) 0 e = bp c (slot d h.castSucc) d (gath x c) := by
  show dmaPay x c (use (sndS d h)) = _; rw [use_snd]; rfl
/-- What a receive's landing gives. -/
theorem pay_rcv (e : Bool) : (ringRd x).payload (rcvC d h c) 0 e = bp c (slot d h.succ) d (gath x c) := by
  show dmaPay x c (use (rcvS d h)) = _; rw [use_rcv]; rfl
/-- What the seeding copy's landing gives. -/
theorem pay_seed (e : Bool) : (ringRd x).payload (seedC c) 0 e = iprop(sp c (gath x c) ∗ xp x c) := rfl
/-- What a barrier signal gives. -/
theorem pay_bar : (ringRd x).payload (barC c) 0 d = barPay c d := rfl

/-- A DMA cell's round whole is its one payment. -/
theorem rest_dma (s : DmaSem sig) : bigSep ((ringRd x).duties ((c : Thread nD τ), .dma s) 0 \ ∅) (fun e => (ringRd x).payload ((c : Thread nD τ), .dma s) 0 e)
    = dmaPay x c (use s) := by
  rw [Finset.sdiff_empty, duties_eq]
  exact bigSep_singleton
/-- The barrier's round whole is both neighbours' payments. -/
theorem rest_bar : bigSep ((ringRd x).duties (barC c) 0 \ ∅) (fun e => (ringRd x).payload (barC c) 0 e)
    = bigSep (Finset.univ : Finset Bool) (fun e => (barPay c e : sProp 𝕄)) := by
  rw [Finset.sdiff_empty, duties_eq]; rfl

end Sched

/-! ## What each core owes; the levels -/

/-- The hop made when k + 1 are left. -/
abbrev hp (k : ℕ) : Fin 7 := ⟨6 - k, by omega⟩

/-- A neighbour's receive credit. -/
abbrev tR (d : Bool) (h : Fin 7) (c : Dev nD) : CellTallies nD τ sig Unit := tallyAt (rcvC d h (nxt d c)) () NH

/-- What is owed with k hops left. -/
def owed (c : Dev nD) : ℕ → CellTallies nD τ sig Unit
  | 0 => 0
  | k + 1 => owed c k + tR true (hp k) c + tR false (hp k) c

/-- What a core owes at the launch: all hops, and a unit to each neighbour's barrier cell. -/
def O₀ (c : Dev nD) : CellTallies nD τ sig Unit := owed c 7 + tallyAt (barC (nxt false c)) () 1 + tallyAt (barC (nxt true c)) () 1

/-- Every TensorCore cell has a level. -/
def L (g : GSem nD τ sig) : Finset Unit := if g.1.2 = .tc then {()} else ∅

/-- The level of a semaphore: the barrier's 1, hop h's receive 2 + h, the others 0. -/
def lvOf : SemLoc sig → ℕ
  | .reg _ => 1
  | .dma s => match use s with
    | .rcv _ h => 2 + h.val
    | _ => 0

/-- The level of a cell. -/
def lv (g : GSem nD τ sig) (_ : Unit) : ℕ := lvOf g.2

/-- Off the TensorCores no cell has a level. -/
theorem L_of_ne (g : GSem nD τ sig) (h : g.1.2 ≠ .tc) : L g = ∅ := if_neg h
/-- A TensorCore cell's. -/
theorem L_tc (c : Dev nD) (s : SemLoc sig) : L ((c : Thread nD τ), s) = {()} := if_pos rfl

/-- A receive cell's level. -/
theorem lv_rcv (d : Bool) (h : Fin 7) : lvOf (.dma (rcvS d h)) = 2 + h.val := by unfold lvOf; dsimp only; rw [use_rcv]
/-- A send cell's level. -/
theorem lv_snd (d : Bool) (h : Fin 7) : lvOf (.dma (sndS d h)) = 0 := by unfold lvOf; dsimp only; rw [use_snd]

/-- One cell's tally is positive there only. -/
theorem tallyAt_pos' {g g' : GSem nD τ sig} {n : ℕ} {u : Unit} (h : 0 < (tallyAt g () n : CellTallies nD τ sig Unit) g' u) : g' = g :=
  (Pipeline.tallyAt_pos h).1

/-- What is owed with k hops left is owed to receive cells of those hops. -/
theorem owed_pos (c : Dev nD) (g : GSem nD τ sig) (u : Unit) : ∀ k, k ≤ 7 → 0 < owed c k g u → ∃ d h, g = rcvC d h (nxt d c) ∧ 7 - k ≤ h.val
  | 0, _, h => absurd h (Nat.lt_irrefl 0)
  | k + 1, hk, h => by
    rw [owed, Pi.add_apply, Finsupp.add_apply, Pi.add_apply, Finsupp.add_apply] at h
    rcases Nat.add_pos_iff_pos_or_pos.mp h with h | h
    · rcases Nat.add_pos_iff_pos_or_pos.mp h with h | h
      · obtain ⟨d, j, e, hj⟩ := owed_pos c g u k (by omega) h
        exact ⟨d, j, e, by omega⟩
      · exact ⟨true, hp k, tallyAt_pos' h, by show 7 - (k + 1) ≤ 6 - k; omega⟩
    · exact ⟨false, hp k, tallyAt_pos' h, by show 7 - (k + 1) ≤ 6 - k; omega⟩

/-- A wait below every hop still owed is allowed. -/
theorem mayWait (c : Dev nD) (s : SemLoc sig) (k : ℕ) (hk : k ≤ 7) (hs : lvOf s < 9 - k) : (levAts L lv : sProp 𝕄) ⊢ MayWait (c : Thread nD τ) s () (owed c k) :=
  MayOwe.of_cut (L := L) (lev := lv) (lvOf s) (fun p hp => by rw [Finset.mem_singleton.mp hp, L_tc]; exact Finset.mem_singleton_self _)
    (fun g u hg => by
      obtain ⟨d, h, rfl, -⟩ := owed_pos c g u k hk hg
      rw [L_tc]; exact Finset.mem_singleton_self _)
    (fun p hp => by rw [Finset.mem_singleton.mp hp]; exact Nat.le_refl _)
    (fun g u hg => by
      obtain ⟨d, h, rfl, hh⟩ := owed_pos c g u k hk hg
      show lvOf s < lvOf (.dma (rcvS d h))
      rw [lv_rcv]; omega)

end Cert.KernelIdeal.Run

end
-- ==== Proof.Hops.lean ====
/-
  The kernel's body run: entry, the seeding copy, and one hop after another.
-/
module

public import proofs.«01_k».proof.Proof.Ring

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (x : Chunks F)

/-- No loop of the program needs a variant. -/
abbrev 𝒱₀ : Variants := Variants.none

/-! ## The cells -/

/-- Barrier cells, one a device. -/
def barEmb : Dev nD ↪ GSem nD τ sig := ⟨fun c => barC c, fun _ _ h => congrArg (fun g : GSem nD τ sig => g.1.1) h⟩
/-- Scoped cells, one a device and DMA semaphore. -/
def scEmb : Dev nD × DmaSem sig ↪ GSem nD τ sig :=
  ⟨fun p => ((p.1 : Thread nD τ), .dma p.2), fun p q h => Prod.ext (congrArg (fun g : GSem nD τ sig => g.1.1) h)
    (SemLoc.dma.inj (congrArg (fun g : GSem nD τ sig => g.2) h))⟩
/-- All barrier cells. -/
abbrev barCells : Finset (GSem nD τ sig) := Finset.univ.map barEmb
/-- All scoped cells. -/
abbrev scCells : Finset (GSem nD τ sig) := Finset.univ.map scEmb

/-- The program's cells' invariants, at the names K. -/
def allInv (K : GSem nD τ sig → ℕ) : sProp 𝕄 := bigSep (barCells ∪ scCells) fun g => cellInv ER (ringRd x) (K g) g

instance allInv_persistent (K : GSem nD τ sig → ℕ) : BI.Persistent (allInv x K) := by unfold allInv; infer_instance

/-- A scoped cell is among them. -/
theorem dma_mem (c : Dev nD) (s : DmaSem sig) : (((c : Thread nD τ), .dma s) : GSem nD τ sig) ∈ (barCells ∪ scCells : Finset (GSem nD τ sig)) :=
  Finset.mem_union_right _ (Finset.mem_map_of_mem scEmb (Finset.mem_univ (c, s)))

/-- A barrier cell's invariant. -/
theorem inv_bar (K : GSem nD τ sig → ℕ) (c : Dev nD) : allInv x K ⊢ cellInv ER (ringRd x) (K (barC c)) (barC c) := by
  unfold allInv
  exact bigSep_elim (i := barC c) (Finset.mem_union_left _ (Finset.mem_map.mpr ⟨c, Finset.mem_univ _, rfl⟩))

/-- A scoped cell's invariant. -/
theorem inv_dma (K : GSem nD τ sig → ℕ) (c : Dev nD) (s : DmaSem sig) :
    allInv x K ⊢ cellInv ER (ringRd x) (K ((c : Thread nD τ), .dma s)) ((c : Thread nD τ), .dma s) := by
  unfold allInv
  exact bigSep_elim (dma_mem c s)

/-- A cell whose round is over closes: its counter is back at zero. -/
theorem close (κ : ℕ) (g : GSem nD τ sig) : iprop(cellInv ER (ringRd x) κ g ∗ atPos ER g (0 + 1) ∅ 0) ⊢ (|={Set.univ}=> semVal g 0 : sProp 𝕄) :=
  Rounds.cell_close ER (ringRd x) (Set.mem_univ κ) id (duties_later x g)

/-! ## Single operations -/

/-- A half slot's amount. -/
theorem amount_blk (j : Fin 8) (d : Bool) (s : DmaSem sig) : (blk j d).view.amount (.dma s) = NH := by unfold NH; rfl
/-- A half slot's credit. -/
theorem credit_blk (j : Fin 8) (d : Bool) : (blk j d).view.dmaCredit = NH := by unfold NH; rfl
/-- Slot 0's amount. -/
theorem amount_seed (s : DmaSem sig) : seedM.view.amount (.dma s) = NS := by unfold NS; rfl

/-- False is a payer of every DMA cell. -/
theorem false_mem (c : Dev nD) (s : DmaSem sig) : false ∈ (ringRd x).duties ((c : Thread nD τ), .dma s) 0 := by
  rw [duties_eq]; exact Finset.mem_singleton_self _

/-- A send: the source half goes into the copy, the neighbour's next half with it; the credit for the own send cell comes out, and the hop is no longer owed. -/
theorem send_run (K : GSem nD τ sig → ℕ) (c : Dev nD) (d : Bool) (h : Fin 7) (O : CellTallies nD τ sig Unit) (W : Waits sig Unit) (Kt : PUnit → sProp 𝕄) :
    iprop(allInv x K ∗ bp c (slot d h.castSucc) d (gath x c) ∗ (∃ f, bp (nxt d c) (slot d h.succ) d f) ∗ owes (c : Thread nD τ) (O + tR d h c) W
        ∗ dutyTok ER (sndC d h c) 0 false ∗ reached ER (sndC d h c) 0 ∗ dutyTok ER (rcvC d h (nxt d c)) 0 false ∗ reached ER (rcvC d h (nxt d c)) 0
        ∗ ((cred (tallyAt (sndC d h c) () NH) ∗ owes (c : Thread nD τ) O W) -∗ Kt ⟨⟩))
      ⊢ wp frame (wpE (defs₀ (F := F)) 𝒱₀ (c : Thread nD τ) none) Set.univ (send d h (nxt d c)) Kt := by
  iintro ⟨#HI, Hs, ⟨%fd, Hd⟩, HO, Ht1, Hr1, Ht2, Hr2, Hk⟩
  unfold send
  iapply (Rounds.wp_send_pointsTo 𝒱₀ ER (ringRd x) (c : Thread nD τ) none (c' := (nxt d c : Thread nD τ)) (src := srcB d h) (dst := dstB d h)
      (sS := .dma (sndS d h)) (sem := .dma (rcvS d h)) (q := fullShare) (fs := gath x c) (κ₁ := K (sndC d h c)) (κ₂ := K (rcvC d h (nxt d c)))
      (r₁ := 0) (r₂ := 0) (d₁ := false) (d₂ := false) (fd := fd) (false_mem x c _) (false_mem x _ _)
      () () NH (amount_blk _ _ _) (amt_snd d h) (amt_rcv d h) O rfl (W := W)
      (by rw [pay_snd])
      (by rw [pay_rcv]; exact Entails.of_eq (pointsTo_congr (landed x c d h fd)))) $$ [Hs Hd HO Ht1 Hr1 Ht2 Hr2]
  · isplitr; · iapply (inv_dma x K c (sndS d h)); iexact HI
    isplitr; · iapply (inv_dma x K (nxt d c) (rcvS d h)); iexact HI
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro H
  rw [wp_ret]
  imodintro
  iapply Hk; iexact H

/-- A wait for a copy on one of the core's own DMA cells, closing it: the copy's payload comes out, and the counter at zero. -/
theorem wait_run (K : GSem nD τ sig → ℕ) (c : Dev nD) (s : DmaSem sig) {sp sp' : Space} {t t' : Shape} {e e' : EltTy} (src : Memref sig .tc sp' t' e') (dst : Memref sig .tc sp t e)
    (hsrc : src.view.WordExact) (hdst : dst.view.WordExact) (hN : dst.view.dmaCredit = amtOf (.dma s)) (k : ℕ) (hk : k ≤ 7) (hs : lvOf (.dma s) < 9 - k)
    (W : Waits sig Unit) (Kt : PUnit → sProp 𝕄) :
    iprop(allInv x K ∗ levAts L lv ∗ cred (tallyAt ((c : Thread nD τ), .dma s) () (amtOf (.dma s))) ∗ owes (c : Thread nD τ) (owed c k) W
        ∗ atPos ER ((c : Thread nD τ), .dma s) 0 ∅ 0
        ∗ ((owes (c : Thread nD τ) (owed c k) (insert (.dma s, ()) W) ∗ semVal ((c : Thread nD τ), .dma s) 0 ∗ dmaPay x c (use s)) -∗ Kt ⟨⟩))
      ⊢ wp frame (wpE (defs₀ (F := F)) 𝒱₀ (c : Thread nD τ) none) Set.univ (Prog.lift (.waitDma2 s src dst hsrc hdst)) Kt := by
  rw [← hN]
  iintro ⟨#HI, #Hl, Hc, HO, Ha, Hk⟩
  iapply (Rounds.wp_wait_rest_token 𝒱₀ ER (ringRd x) (c : Thread nD τ) none (κ := K ((c : Thread nD τ), .dma s))
      (wpE_waitDma2_eq 𝒱₀ (c : Thread nD τ) none Set.univ) (Set.mem_univ _) () (O := owed c k) (W := W) (R := 0) (m := 0) (T := ∅)
      ((Nat.zero_add _).trans (hN.trans ((Nat.one_mul _).symm.trans (expect_eq x c (.dma s)).symm)))) $$ [Hc HO Ha]
  · isplitr; · iapply (inv_dma x K c s); iexact HI
    isplitl [Hc]; · iexact Hc
    isplitl [HO]; · iexact HO
    isplitr; · iapply (mayWait c (.dma s) k hk hs); iexact Hl
    iexact Ha
  iintro ⟨HO, Ha, -, Hp⟩
  rw [wp_ret]
  imod (close x (K ((c : Thread nD τ), .dma s)) ((c : Thread nD τ), .dma s)) $$ [Ha] with Hz
  · isplitr; · iapply (inv_dma x K c s); iexact HI
    iexact Ha
  imodintro
  iapply Hk
  isplitl [HO]; · iexact HO
  isplitl [Hz]; · iexact Hz
  iapply (Entails.of_eq (rest_dma x c s)); iexact Hp

/-! ## One hop -/

/-- What a core holds for hop h in direction d: its places in the send and receive cells, the duties of its copy, the credit of the copy that comes, the half slot it writes. -/
def legPre (c : Dev nD) (d : Bool) (h : Fin 7) : sProp 𝕄 :=
  iprop(atPos ER (sndC d h c) 0 ∅ 0 ∗ atPos ER (rcvC d h c) 0 ∅ 0 ∗ dutyTok ER (sndC d h c) 0 false ∗ reached ER (sndC d h c) 0
    ∗ dutyTok ER (rcvC d h (nxt d c)) 0 false ∗ cred (tallyAt (rcvC d h c) () NH)
    ∗ (∃ f, bp (nxt d c) (slot d h.succ) d f) ∗ reached ER (rcvC d h (nxt d c)) 0)

/-- What is left of it: both counters at zero, and the half slot it sent. -/
def legPost (c : Dev nD) (d : Bool) (h : Fin 7) : sProp 𝕄 :=
  iprop(semVal (sndC d h c) 0 ∗ semVal (rcvC d h c) 0 ∗ bp c (slot d h.castSucc) d (gath x c))

/-- The chunks a core is to send next, in the slots they have reached. -/
def cur (c : Dev nD) (j : Fin 8) : sProp 𝕄 := iprop(bp c (slot false j) false (gath x c) ∗ bp c (slot true j) true (gath x c))

/-- One hop: both chunks are a slot further. -/
theorem hop_run (K : GSem nD τ sig → ℕ) (c : Dev nD) (k : ℕ) (hk : k < 7) (W : Waits sig Unit) (Kt : PUnit → sProp 𝕄) :
    iprop(allInv x K ∗ levAts L lv ∗ (legPre c false (hp k) ∗ legPre c true (hp k)) ∗ cur x c (hp k).castSucc ∗ owes (c : Thread nD τ) (owed c (k + 1)) W
        ∗ (∀ W', ((legPost x c false (hp k) ∗ legPost x c true (hp k)) ∗ cur x c (hp k).succ ∗ owes (c : Thread nD τ) (owed c k) W') -∗ Kt ⟨⟩))
      ⊢ wp frame (wpE (defs₀ (F := F)) 𝒱₀ (c : Thread nD τ) none) Set.univ (hop (hp k) (fun d => nxt d c)) Kt := by
  generalize hh : hp k = h
  have hv : 2 + h.val < 9 - k := by subst hh; show 2 + (6 - k) < 9 - k; omega
  have ho : owed c (k + 1) = owed c k + tR true h c + tR false h c := by subst hh; rfl
  have hrl (d : Bool) : lvOf (.dma (rcvS d h)) < 9 - k := by rw [lv_rcv]; exact hv
  have hsl (d : Bool) : lvOf (.dma (sndS d h)) < 9 - k := by rw [lv_snd]; omega
  rw [ho]
  unfold hop legPre cur
  simp only [wp_bind]
  iintro ⟨#HI, #Hl, ⟨⟨Has, Har, Hts, Hrs, Htr, Hcr, Hd, Hrr⟩, ⟨Has', Har', Hts', Hrs', Htr', Hcr', Hd', Hrr'⟩⟩, ⟨Hs, Hs'⟩, HO, Hk⟩
  iapply (send_run x K c false h _ W _)
  isplitr; · iexact HI
  isplitl [Hs]; · iexact Hs
  isplitl [Hd]; · iexact Hd
  isplitl [HO]; · iexact HO
  isplitl [Hts]; · iexact Hts
  isplitl [Hrs]; · iexact Hrs
  isplitl [Htr]; · iexact Htr
  isplitl [Hrr]; · iexact Hrr
  iintro ⟨Hcs, HO⟩
  iapply (send_run x K c true h _ W _)
  isplitr; · iexact HI
  isplitl [Hs']; · iexact Hs'
  isplitl [Hd']; · iexact Hd'
  isplitl [HO]; · iexact HO
  isplitl [Hts']; · iexact Hts'
  isplitl [Hrs']; · iexact Hrs'
  isplitl [Htr']; · iexact Htr'
  isplitl [Hrr']; · iexact Hrr'
  iintro ⟨Hcs', HO⟩
  have hw (d : Bool) (W : Waits sig Unit) (Kt : PUnit → sProp 𝕄) := wait_run x K c (sndS d h) (dstB d h) (srcB d h) (blk_words _ _) (blk_words _ _) ((credit_blk _ _).trans (amt_snd d h).symm) k (by omega) (hsl d) W Kt
  have hw' (d : Bool) (W : Waits sig Unit) (Kt : PUnit → sProp 𝕄) := wait_run x K c (rcvS d h) (srcB d h) (dstB d h) (blk_words _ _) (blk_words _ _) ((credit_blk _ _).trans (amt_rcv d h).symm) k (by omega) (hrl d) W Kt
  simp only [amt_snd, amt_rcv, use_snd, use_rcv, dmaPay] at hw hw'
  unfold waitSnd waitRcv
  iapply (hw false _ _)
  isplitr; · iexact HI
  isplitr; · iexact Hl
  isplitl [Hcs]; · iexact Hcs
  isplitl [HO]; · iexact HO
  isplitl [Has]; · iexact Has
  iintro ⟨HO, Hz1, Hs⟩
  iapply (hw' false _ _)
  isplitr; · iexact HI
  isplitr; · iexact Hl
  isplitl [Hcr]; · iexact Hcr
  isplitl [HO]; · iexact HO
  isplitl [Har]; · iexact Har
  iintro ⟨HO, Hz2, Hd⟩
  iapply (hw true _ _)
  isplitr; · iexact HI
  isplitr; · iexact Hl
  isplitl [Hcs']; · iexact Hcs'
  isplitl [HO]; · iexact HO
  isplitl [Has']; · iexact Has'
  iintro ⟨HO, Hz3, Hs'⟩
  iapply (hw' true _ _)
  isplitr; · iexact HI
  isplitr; · iexact Hl
  isplitl [Hcr']; · iexact Hcr'
  isplitl [HO]; · iexact HO
  isplitl [Har']; · iexact Har'
  iintro ⟨HO, Hz4, Hd'⟩
  iapply Hk
  unfold legPost
  isplitl [Hz1 Hz2 Hz3 Hz4 Hs Hs']
  · isplitl [Hz1 Hz2 Hs]
    · isplitl [Hz1]; · iexact Hz1
      isplitl [Hz2]; · iexact Hz2
      iexact Hs
    · isplitl [Hz3]; · iexact Hz3
      isplitl [Hz4]; · iexact Hz4
      iexact Hs'
  isplitl [Hd Hd']
  · isplitl [Hd]; · iexact Hd
    iexact Hd'
  iexact HO

end Cert.KernelIdeal.Run

end
-- ==== Proof.Run.lean ====
/-
  The body from its first operation to its last.
-/
module

public import proofs.«01_k».proof.Proof.Hops

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (x : Chunks F)

/-- The family over the two directions is its two members. -/
theorem bigSep_dir {M : Type} [URA M] (Φ : Bool → sProp M) : bigSep Finset.univ Φ = iprop(Φ false ∗ Φ true) := by
  rw [show (Finset.univ : Finset Bool) = {false, true} from by decide, bigSep_insert (by decide), bigSep_singleton]
  rfl

/-- The family over the first k + 1 numbers is its last member and the rest. -/
theorem bigSep_count {M : Type} [URA M] (k : ℕ) (Φ : ℕ → sProp M) :
    bigSep (Finset.range (k + 1)) Φ = iprop(Φ k ∗ bigSep (Finset.range k) Φ) := by
  rw [Finset.range_add_one, bigSep_insert Finset.notMem_range_self]
  rfl

/-! ## The hops in sequence -/

/-- The last k hops. -/
def hopsFrom (t : Fin 7 → Bool → Dev nD) : ℕ → Prog (TpuEff nD τ sig (Elt F) Λ₀ .tc) PUnit
  | 0 => pure ⟨⟩
  | k + 1 => do
    hop (hp k) (t (hp k))
    hopsFrom t k

/-- The body with its hops counted down. -/
def body' : Prog (TpuEff nD τ sig (Elt F) Λ₀ .tc) PUnit := do
  let c ← Prog.lift .deviceId
  entry ⟨k0_dev1 c, k0_dev1_lt c⟩ ⟨k0_dev2 c, k0_dev2_lt c⟩
  seed
  hopsFrom (tgt c) 7

set_option maxRecDepth 65536 in
/-- It is the body. -/
theorem body_eq' : body (F := F) = body' := rfl

/-- How far a chunk has come with k hops left. -/
abbrev st (k : ℕ) : Fin 8 := ⟨7 - k, by omega⟩

/-- Both directions of a hop before it. -/
abbrev legsPre (c : Dev nD) (h : Fin 7) : sProp 𝕄 := iprop(legPre c false h ∗ legPre c true h)
/-- Both directions of a hop after it. -/
abbrev legsPost (c : Dev nD) (h : Fin 7) : sProp 𝕄 := iprop(legPost x c false h ∗ legPost x c true h)

/-- The last k hops run: both chunks reach their last slots, every hop's cells are closed, nothing is owed. -/
theorem hops_run (K : GSem nD τ sig → ℕ) (c : Dev nD) : ∀ (k : ℕ) (_ : k ≤ 7) (W : Waits sig Unit) (Kt : PUnit → sProp 𝕄),
    iprop(allInv x K ∗ levAts L lv ∗ (bigSep (Finset.range k) fun i => legsPre c (hp i)) ∗ cur x c (st k) ∗ owes (c : Thread nD τ) (owed c k) W
        ∗ (∀ W', ((bigSep (Finset.range k) fun i => legsPost x c (hp i)) ∗ cur x c 7 ∗ owes (c : Thread nD τ) (0 : CellTallies nD τ sig Unit) W') -∗ Kt ⟨⟩))
      ⊢ wp frame (wpE (defs₀ (F := F)) 𝒱₀ (c : Thread nD τ) none) Set.univ (hopsFrom (fun _ d => nxt d c) k) Kt
  | 0, _, W, Kt => by
    unfold hopsFrom
    rw [wp_pure, Finset.range_zero, bigSep_empty, bigSep_empty]
    iintro ⟨-, -, -, Hc, HO, Hk⟩
    imodintro
    iapply Hk
    isplitr; · iempintro
    isplitl [Hc]; · iexact Hc
    iexact HO
  | k + 1, hk, W, Kt => by
    have ih := hops_run K c k (by omega)
    have e1 : st (k + 1) = (hp k).castSucc := Fin.ext (show 7 - (k + 1) = 6 - k by omega)
    have e2 : st k = (hp k).succ := Fin.ext (show 7 - k = 6 - k + 1 by omega)
    rw [e2] at ih
    unfold hopsFrom
    rw [wp_bind, e1, bigSep_count, bigSep_count]
    iintro ⟨#HI, #Hl, ⟨Hp, Hps⟩, Hc, HO, Hk⟩
    iapply (hop_run x K c k (by omega) W _)
    isplitr; · iexact HI
    isplitr; · iexact Hl
    isplitl [Hp]; · iexact Hp
    isplitl [Hc]; · iexact Hc
    isplitl [HO]; · iexact HO
    iintro %W' ⟨Hq, Hc, HO⟩
    iapply (ih W' _)
    isplitr; · iexact HI
    isplitr; · iexact Hl
    isplitl [Hps]; · iexact Hps
    isplitl [Hc]; · iexact Hc
    isplitl [HO]; · iexact HO
    iintro %W'' ⟨Hqs, Hc, HO⟩
    iapply Hk
    isplitl [Hq Hqs]
    · isplitl [Hq]; · iexact Hq
      iexact Hqs
    isplitl [Hc]; · iexact Hc
    iexact HO

/-! ## Entry and seeding -/

/-- What a core gives its neighbour in direction !d: its own half slots for direction d, their receive cells open. -/
def mySlots (c : Dev nD) (d : Bool) : sProp 𝕄 :=
  bigSep Finset.univ fun h : Fin 7 => iprop((∃ f, bp c (slot d h.succ) d f) ∗ reached ER (rcvC d h c) 0)

/-- That is the payment on the neighbour's barrier cell. -/
theorem mySlots_eq (c : Dev nD) (d : Bool) : (mySlots c d : sProp 𝕄) = barPay (nxt (!d) c) d := by
  unfold barPay
  rw [show nxt d (nxt (!d) c) = c from (congrArg (fun e => nxt e (nxt (!d) c)) (Bool.not_not d).symm).trans (nxt_nxt (!d) c)]
  rfl

/-- One unit, as a word. -/
theorem one_toInt : (1#32 : BitVec 32).toInt = ((1 : ℕ) : ℤ) := by decide
/-- Two units, as a word. -/
theorem two_toInt : (2#32 : BitVec 32).toInt = ((2 : ℕ) : ℤ) := by decide

/-- A signal to the neighbour in direction !d. -/
theorem signal_run (K : GSem nD τ sig → ℕ) (c : Dev nD) (d : Bool) (O : CellTallies nD τ sig Unit) (W : Waits sig Unit) (Kt : PUnit → sProp 𝕄) :
    iprop(allInv x K ∗ owes (c : Thread nD τ) (O + tallyAt (barC (nxt (!d) c)) () 1) W ∗ dutyTok ER (barC (nxt (!d) c)) 0 d ∗ reached ER (barC (nxt (!d) c)) 0
        ∗ mySlots c d ∗ (owes (c : Thread nD τ) O W -∗ Kt ⟨⟩))
      ⊢ wp frame (wpE (defs₀ (F := F)) 𝒱₀ (c : Thread nD τ) none) Set.univ (semSignalWord (nxt (!d) c) barrier0 1#32) Kt := by
  unfold semSignalWord
  rw [one_toInt]
  iintro ⟨#HI, HO, Ht, Hr, Hs, Hk⟩
  iapply (Rounds.wp_signal 𝒱₀ ER (ringRd x) (c : Thread nD τ) none (dst := (nxt (!d) c : Thread nD τ)) (sem := barrier0) (r := 0) (d := d) (κ := K (barC (nxt (!d) c)))
      (by rw [duties_eq]; exact Finset.mem_univ _) rfl () O rfl) $$ [HO Ht Hr Hs]
  · isplitr; · iapply (inv_bar x K (nxt (!d) c)); iexact HI
    isplitl [HO]; · iexact HO
    isplitl [Ht]; · iexact Ht
    isplitl [Hs]; · rw [pay_bar, ← mySlots_eq]; iexact Hs
    iexact Hr
  iintro HO
  rw [wp_ret]
  imodintro
  iapply Hk; iexact HO

/-- The wait for both neighbours' signals, closing the barrier cell: the half slots the core sends to come with them. -/
theorem barrier_run (K : GSem nD τ sig → ℕ) (c : Dev nD) (W : Waits sig Unit) (Kt : PUnit → sProp 𝕄) :
    iprop(allInv x K ∗ levAts L lv ∗ cred (tallyAt (barC c) () 2) ∗ owes (c : Thread nD τ) (owed c 7) W ∗ atPos ER (barC c) 0 ∅ 0
        ∗ ((owes (c : Thread nD τ) (owed c 7) (insert (.reg barrier0, ()) W) ∗ semVal (barC c) 0 ∗ barPay c false ∗ barPay c true) -∗ Kt ⟨⟩))
      ⊢ wp frame (wpE (defs₀ (F := F)) 𝒱₀ (c : Thread nD τ) none) Set.univ (semWaitWord barrier0 2#32) Kt := by
  unfold semWaitWord
  rw [two_toInt]
  iintro ⟨#HI, #Hl, Hc, HO, Ha, Hk⟩
  iapply (Rounds.wp_wait_rest_token 𝒱₀ ER (ringRd x) (c : Thread nD τ) none (κ := K (barC c))
      (wpE_semWait_eq 𝒱₀ (c : Thread nD τ) none Set.univ) (Set.mem_univ _) () (O := owed c 7) (W := W) (R := 0) (m := 0) (T := ∅)
      ((Nat.zero_add _).trans (expect_bar x c).symm)) $$ [Hc HO Ha]
  · isplitr; · iapply (inv_bar x K c); iexact HI
    isplitl [Hc]; · iexact Hc
    isplitl [HO]; · iexact HO
    isplitr; · iapply (mayWait c (.reg barrier0) 7 (le_refl _) (by decide)); iexact Hl
    iexact Ha
  iintro ⟨HO, Ha, -, Hp⟩
  rw [wp_ret]
  imod (close x (K (barC c)) (barC c)) $$ [Ha] with Hz
  · isplitr; · iapply (inv_bar x K c); iexact HI
    iexact Ha
  imodintro
  iapply Hk
  isplitl [HO]; · iexact HO
  isplitl [Hz]; · iexact Hz
  iapply (Entails.of_eq ((rest_bar x c).trans (bigSep_dir _))); iexact Hp

/-- Slot 0 at its own chunk is both directions' first half slots. -/
theorem seed_cur (c : Dev nD) : (sp c (gath x c) : sProp 𝕄) = cur x c 0 := by
  refine (Ring.pointsTo_sub_blocks (fun d => half 0 d) (fun d e h => blk_disjoint (0, d) (0, e) (fun he => h (congrArg Prod.snd he))) _ seed_cover (gath x c)).trans ?_
  rw [bigSep_dir]
  rfl

/-- The seeding copy, its cell closed: slot 0 holds the own chunk. -/
theorem seed_run (K : GSem nD τ sig → ℕ) (c : Dev nD) (W : Waits sig Unit) (Kt : PUnit → sProp 𝕄) :
    iprop(allInv x K ∗ levAts L lv ∗ (∃ f, sp c f) ∗ xp x c ∗ owes (c : Thread nD τ) (owed c 7) W ∗ atPos ER (seedC c) 0 ∅ 0
        ∗ dutyTok ER (seedC c) 0 false ∗ reached ER (seedC c) 0
        ∗ (∀ W', (owes (c : Thread nD τ) (owed c 7) W' ∗ semVal (seedC c) 0 ∗ cur x c 0 ∗ xp x c) -∗ Kt ⟨⟩))
      ⊢ wp frame (wpE (defs₀ (F := F)) 𝒱₀ (c : Thread nD τ) none) Set.univ seed Kt := by
  unfold seed
  rw [wp_bind]
  iintro ⟨#HI, #Hl, ⟨%f, Hs⟩, Hx, HO, Ha, Ht, Hr, Hk⟩
  iapply (Rounds.wp_copy_pointsTo 𝒱₀ ER (ringRd x) (c : Thread nD τ) none (src := xM) (dst := seedM) (sem := .dma seedS) (q := fullShare)
      (fs := x c) (fd := f) (r := 0) (d := false) (κ := K (seedC c)) (false_mem x c _) () NS (amount_seed _) rfl
      (by rw [pay_seed]; exact sep_mono_left (Entails.of_eq (pointsTo_congr (seeded x c f))))) $$ [Hs Hx Ht Hr]
  · isplitr; · iapply (inv_dma x K c seedS); iexact HI
    isplitl [Hx]; · iexact Hx
    isplitl [Hs]; · iexact Hs
    isplitl [Ht]; · iexact Ht
    iexact Hr
  iintro Hc
  rw [wp_ret]
  imodintro
  iapply (wait_run x K c seedS xM seedM xM_words seedM_words (amount_seed seedS) 7 (le_refl _) (by decide) W _)
  isplitr; · iexact HI
  isplitr; · iexact Hl
  isplitl [Hc]; · iexact Hc
  isplitl [HO]; · iexact HO
  isplitl [Ha]; · iexact Ha
  iintro ⟨HO, Hz, Hp⟩
  rw [use_seed]
  unfold dmaPay
  rw [seed_cur]
  icases Hp with ⟨Hs, Hx⟩
  iapply Hk
  isplitl [HO]; · iexact HO
  isplitl [Hz]; · iexact Hz
  isplitl [Hs]; · iexact Hs
  iexact Hx

/-! ## The whole body -/

/-- What a core holds of its own for hop h in direction d, before the neighbour's slot. -/
def legBase (c : Dev nD) (d : Bool) (h : Fin 7) : sProp 𝕄 :=
  iprop(atPos ER (sndC d h c) 0 ∅ 0 ∗ atPos ER (rcvC d h c) 0 ∅ 0 ∗ dutyTok ER (sndC d h c) 0 false ∗ reached ER (sndC d h c) 0
    ∗ dutyTok ER (rcvC d h (nxt d c)) 0 false ∗ cred (tallyAt (rcvC d h c) () NH))

/-- With the neighbour's slot it is all the hop needs. -/
theorem legPre_intro (c : Dev nD) (d : Bool) (h : Fin 7) :
    iprop(legBase c d h ∗ ((∃ f, bp (nxt d c) (slot d h.succ) d f) ∗ reached ER (rcvC d h (nxt d c)) 0)) ⊢ (legPre c d h : sProp 𝕄) := by
  unfold legBase legPre
  iintro ⟨⟨H1, H2, H3, H4, H5, H6⟩, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- All hops of a direction at once. -/
theorem legsPre_intro (c : Dev nD) (d : Bool) :
    iprop((bigSep Finset.univ fun h : Fin 7 => legBase c d h) ∗ barPay c d) ⊢ (bigSep Finset.univ fun h : Fin 7 => (legPre c d h : sProp 𝕄)) := by
  unfold barPay
  rw [← bigSep_sep']
  exact bigSep_mono fun h _ => legPre_intro c d h

/-- Counting hops down or by their number. -/
theorem range_hops {M : Type} [URA M] (Φ : Fin 7 → sProp M) : (bigSep (Finset.range 7) fun i => Φ (hp i)) = bigSep Finset.univ Φ := by
  have e : (Finset.range 7) = (Finset.univ : Finset (Fin 7)).map ⟨fun h => 6 - h.val, fun a b h => Fin.ext (by have := a.isLt; have := b.isLt; simp only at h; omega)⟩ := by decide
  rw [e, bigSep_map]
  exact bigSep_congr fun h _ => congrArg Φ (Fin.ext (show 6 - (6 - h.val) = h.val by have := h.isLt; omega))

/-- What a core enters the kernel with. -/
def bodyPre (K : GSem nD τ sig → ℕ) (c : Dev nD) : sProp 𝕄 :=
  iprop(allInv x K ∗ levAts L lv
    ∗ (dutyTok ER (barC (nxt true c)) 0 false ∗ reached ER (barC (nxt true c)) 0 ∗ mySlots c false)
    ∗ (dutyTok ER (barC (nxt false c)) 0 true ∗ reached ER (barC (nxt false c)) 0 ∗ mySlots c true)
    ∗ (cred (tallyAt (barC c) () 2) ∗ atPos ER (barC c) 0 ∅ 0)
    ∗ ((∃ f, sp c f) ∗ xp x c ∗ atPos ER (seedC c) 0 ∅ 0 ∗ dutyTok ER (seedC c) 0 false ∗ reached ER (seedC c) 0)
    ∗ (bigSep Finset.univ fun h : Fin 7 => legBase c false h) ∗ (bigSep Finset.univ fun h : Fin 7 => legBase c true h))

/-- What it leaves the kernel with. -/
def bodyPost (c : Dev nD) : sProp 𝕄 :=
  iprop(semVal (barC c) 0 ∗ semVal (seedC c) 0 ∗ xp x c ∗ (bigSep Finset.univ fun h : Fin 7 => legsPost x c h) ∗ cur x c 7)

/-- The body runs. -/
theorem body_run (K : GSem nD τ sig → ℕ) (c : Dev nD) (W : Waits sig Unit) (Kt : PUnit → sProp 𝕄) :
    iprop(bodyPre x K c ∗ owes (c : Thread nD τ) (O₀ c) W ∗ (∀ W', (bodyPost x c ∗ owes (c : Thread nD τ) (0 : CellTallies nD τ sig Unit) W') -∗ Kt ⟨⟩))
      ⊢ wp frame (wpE (defs₀ (F := F)) 𝒱₀ (c : Thread nD τ) none) Set.univ body Kt := by
  rw [body_eq']
  unfold body' entry bodyPre O₀
  simp only [wp_bind, Prog.lift, wp_deviceId, wp_ret]
  have e1 : (⟨k0_dev1 c, k0_dev1_lt c⟩ : Dev nD) = nxt true c := Fin.ext (k0_dev1_eq c)
  have e2 : (⟨k0_dev2 c, k0_dev2_lt c⟩ : Dev nD) = nxt false c := Fin.ext (k0_dev2_eq c)
  have e3 : tgt c = fun _ d => nxt d c := funext fun h => tgt_eq c h
  rw [e1, e2, e3]
  iintro ⟨⟨#HI, #Hl, ⟨Ht, Hr, Hs⟩, ⟨Ht', Hr', Hs'⟩, ⟨Hc, Ha⟩, ⟨Hsp, Hx, Hsa, Hst, Hsr⟩, Hf, Hg⟩, HO, Hk⟩
  imodintro
  iapply (signal_run x K c false (owed c 7 + tallyAt (barC (nxt false c)) () 1) W _)
  isplitr; · iexact HI
  isplitl [HO]; · iexact HO
  isplitl [Ht]; · iexact Ht
  isplitl [Hr]; · iexact Hr
  isplitl [Hs]; · iexact Hs
  iintro HO
  iapply (signal_run x K c true (owed c 7) W _)
  isplitr; · iexact HI
  isplitl [HO]; · iexact HO
  isplitl [Ht']; · iexact Ht'
  isplitl [Hr']; · iexact Hr'
  isplitl [Hs']; · iexact Hs'
  iintro HO
  iapply (barrier_run x K c W _)
  isplitr; · iexact HI
  isplitr; · iexact Hl
  isplitl [Hc]; · iexact Hc
  isplitl [HO]; · iexact HO
  isplitl [Ha]; · iexact Ha
  iintro ⟨HO, Hbz, Hbf, Hbt⟩
  iapply (seed_run x K c _ _)
  isplitr; · iexact HI
  isplitr; · iexact Hl
  isplitl [Hsp]; · iexact Hsp
  isplitl [Hx]; · iexact Hx
  isplitl [HO]; · iexact HO
  isplitl [Hsa]; · iexact Hsa
  isplitl [Hst]; · iexact Hst
  isplitl [Hsr]; · iexact Hsr
  iintro %W' ⟨HO, Hsz, Hcur, Hx⟩
  iapply (hops_run x K c 7 (le_refl _) W' _)
  isplitr; · iexact HI
  isplitr; · iexact Hl
  isplitl [Hf Hg Hbf Hbt]
  · rw [range_hops fun h => legsPre c h, bigSep_sep']
    isplitl [Hf Hbf]
    · iapply (legsPre_intro c false)
      isplitl [Hf]; · iexact Hf
      iexact Hbf
    · iapply (legsPre_intro c true)
      isplitl [Hg]; · iexact Hg
      iexact Hbt
  isplitl [Hcur]; · iexact Hcur
  isplitl [HO]; · iexact HO
  iintro %W'' ⟨Hps, Hcur, HO⟩
  iapply Hk
  unfold bodyPost
  isplitr [HO]
  · isplitl [Hbz]; · iexact Hbz
    isplitl [Hsz]; · iexact Hsz
    isplitl [Hx]; · iexact Hx
    isplitl [Hps]; · iapply (Entails.of_eq (range_hops fun h => legsPost x c h)); iexact Hps
    iexact Hcur
  iexact HO

end Cert.KernelIdeal.Run

end
-- ==== Proof.Split.lean ====
/-
  The two arrays and the semaphores, whole and in the pieces the body works with.
-/
module

public import proofs.«01_k».proof.Proof.Run

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (x : Chunks F)

/-! ## The slots -/

/-- Eight members: the first and the seven after it. -/
theorem bigSep_first {M : Type} [URA M] (Φ : Fin 8 → sProp M) : bigSep Finset.univ Φ = iprop(Φ 0 ∗ bigSep Finset.univ fun h : Fin 7 => Φ h.succ) := by
  rw [show (Finset.univ : Finset (Fin 8)) = insert 0 (Finset.univ.map (Fin.succEmb 7)) from by decide, bigSep_insert (by decide), bigSep_map]
  rfl

/-- Eight members: the first seven and the last. -/
theorem bigSep_last {M : Type} [URA M] (Φ : Fin 8 → sProp M) : bigSep Finset.univ Φ = iprop(Φ 7 ∗ bigSep Finset.univ fun h : Fin 7 => Φ h.castSucc) := by
  rw [show (Finset.univ : Finset (Fin 8)) = insert 7 (Finset.univ.map Fin.castSuccEmb) from by decide, bigSep_insert (by decide), bigSep_map]
  rfl

/-- A chunk passes every slot once, in either direction. -/
theorem slot_bij (d : Bool) : Function.Bijective (slot d) := by
  refine (Finite.injective_iff_bijective).mp ?_
  revert d; decide

/-- A direction's half slots, in the order its chunk passes them. -/
theorem slots_eq {M : Type} [URA M] (d : Bool) (Φ : Fin 8 → sProp M) : bigSep Finset.univ Φ = bigSep Finset.univ fun k => Φ (slot d k) :=
  bigSep_univ_equiv (Equiv.ofBijective _ (slot_bij d)) Φ

/-- The gathered array is its half slots. -/
theorem whole_eq (c : Dev nD) (f : Buf (Elt F) ((c : Thread nD τ).loc main_v2)) :
    ((c : Thread nD τ).loc main_v2 ↦{fullShare} f : sProp 𝕄)
      = iprop((bigSep Finset.univ fun k => bp c (slot false k) false f) ∗ bigSep Finset.univ fun k => bp c (slot true k) true f) := by
  refine (Ring.pointsTo_blocks (fun p : Bool × Fin 8 => half p.2 p.1) (fun p q h => blk_disjoint (p.2, p.1) (q.2, q.1) (fun he => h (Prod.ext (congrArg Prod.snd he) (congrArg Prod.fst he))))
    ?_ f).trans ?_
  · rw [← blk_cover]
    ext i
    simp only [Finset.mem_biUnion, Finset.mem_univ, true_and]
    exact ⟨fun ⟨p, h⟩ => ⟨(p.2, p.1), h⟩, fun ⟨p, h⟩ => ⟨(p.2, p.1), h⟩⟩
  rw [bigSep_univ_prod, bigSep_dir, slots_eq false, slots_eq true (fun j => _)]
  rfl

/-- Slot 0 is its two halves. -/
theorem seed_split (c : Dev nD) (f : Buf (Elt F) ((c : Thread nD τ).loc main_v2)) : (sp c f : sProp 𝕄) = iprop(bp c 0 false f ∗ bp c 0 true f) := by
  refine (Ring.pointsTo_sub_blocks (fun d => half 0 d) (fun d e h => blk_disjoint (0, d) (0, e) (fun he => h (congrArg Prod.snd he))) _ seed_cover f).trans ?_
  rw [bigSep_dir]

/-- A half slot at given contents is one at some contents. -/
theorem some_slot (c : Dev nD) (j : Fin 8) (d : Bool) (f : Buf (Elt F) ((c : Thread nD τ).loc main_v2)) : (bp c j d f : sProp 𝕄) ⊢ iprop(∃ f, bp c j d f) := by
  iintro H
  iexists f
  iexact H

/-- Before the body: slot 0 apart, and the other half slots of either direction in the order of the hops. -/
theorem split_before (c : Dev nD) (f : Buf (Elt F) ((c : Thread nD τ).loc main_v2)) :
    ((c : Thread nD τ).loc main_v2 ↦{fullShare} f : sProp 𝕄)
      ⊢ iprop((∃ f, sp c f) ∗ (bigSep Finset.univ fun h : Fin 7 => iprop(∃ f, bp c (slot false h.succ) false f))
          ∗ bigSep Finset.univ fun h : Fin 7 => iprop(∃ f, bp c (slot true h.succ) true f)) := by
  rw [whole_eq, bigSep_first, bigSep_first (fun k => bp c (slot true k) true f)]
  have hm (d : Bool) : (bigSep Finset.univ fun h : Fin 7 => (bp c (slot d h.succ) d f : sProp 𝕄)) ⊢ bigSep Finset.univ fun h : Fin 7 => iprop(∃ f, bp c (slot d h.succ) d f) :=
    bigSep_mono fun h _ => some_slot c (slot d h.succ) d f
  iintro ⟨⟨H0, Hf⟩, ⟨H1, Ht⟩⟩
  isplitl [H0 H1]
  · iexists f
    iapply (Entails.of_eq (seed_split c f).symm)
    isplitl [H0]; · iexact H0
    iexact H1
  isplitl [Hf]; · iapply (hm false); iexact Hf
  iapply (hm true); iexact Ht

/-- After the body: the half slots sent from and the last ones are the gathered array. -/
theorem join_after (c : Dev nD) :
    iprop((bigSep Finset.univ fun h : Fin 7 => bp c (slot false h.castSucc) false (gath x c)) ∗ (bigSep Finset.univ fun h : Fin 7 => bp c (slot true h.castSucc) true (gath x c)) ∗ cur x c 7)
      ⊢ ((c : Thread nD τ).loc main_v2 ↦{fullShare} gath x c : sProp 𝕄) := by
  rw [whole_eq, bigSep_last, bigSep_last (fun k => bp c (slot true k) true (gath x c))]
  unfold cur
  iintro ⟨Hf, Ht, H0, H1⟩
  isplitl [Hf H0]
  · isplitl [H0]; · iexact H0
    iexact Hf
  isplitl [H1]; · iexact H1
  iexact Ht

/-- The own chunk's array is the memref the body reads. -/
theorem chunk_eq (c : Dev nD) : (xp x c : sProp 𝕄) = ((c : Thread nD τ).loc main_v1 ↦{fullShare} x c) :=
  congrArg (fun S => (((c : Thread nD τ).loc main_v1 ↦[S]{fullShare} x c : sProp 𝕄))) (View.set_whole main_v1)

/-! ## The semaphores -/

/-- What a DMA semaphore is for, named without the seeding copy's: none, or a direction, sending or receiving, and a hop. -/
def semOf : Option (Bool × Bool × Fin 7) → DmaSem sig
  | none => seedS
  | some (false, d, h) => sndS d h
  | some (true, d, h) => rcvS d h

/-- Every DMA semaphore has one use. -/
theorem semOf_bij : Function.Bijective semOf := by
  have hi : Function.Injective semOf := by decide
  exact (Fintype.bijective_iff_injective_and_card _).mpr ⟨hi, by decide⟩

/-- The family over the DMA semaphores, by use. -/
theorem bigSep_sems {M : Type} [URA M] (Φ : DmaSem sig → sProp M) :
    bigSep Finset.univ Φ = iprop(Φ seedS
      ∗ ((bigSep Finset.univ fun h : Fin 7 => Φ (sndS false h)) ∗ bigSep Finset.univ fun h : Fin 7 => Φ (sndS true h))
      ∗ ((bigSep Finset.univ fun h : Fin 7 => Φ (rcvS false h)) ∗ bigSep Finset.univ fun h : Fin 7 => Φ (rcvS true h))) := by
  rw [bigSep_univ_equiv (Equiv.ofBijective _ semOf_bij), bigSep_univ_equiv (Equiv.optionEquivSumPUnit.{0} (Bool × Bool × Fin 7)).symm, bigSep_univ_sum, bigSep_univ_prod, bigSep_dir,
    bigSep_univ_prod, bigSep_dir, bigSep_univ_prod, bigSep_dir, bigSep_univ_of_subsingleton PUnit.unit]
  exact equiv_iff.mp ⟨BI.sep_comm, BI.sep_comm⟩

end Cert.KernelIdeal.Run

end
-- ==== Proof.Region.lean ====
/-
  The kernel's call as one segment of @main.
-/
module

public import proofs.«01_k».proof.Proof.Split
public import proofs.«01_k».proof.Proof.Gen.KernelIdeal.Regions
public import Idealize.ShloMosaic.Lib.Pipeline.RegionTalk

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ## The arrays around the call -/

/-- Every device's own chunk: its block of x as the host stretch before the call rounds it. -/
abbrev chunks : Chunks F := fun c => V1 m c main_v1

/-- What the call leaves in the arrays it may change. -/
def outs : Outs (F := F) := fun _ r c =>
  if h : r = main_v2 then h ▸ gath (chunks m) c else V1 m c r

/-- The two arrays of the call. -/
def bufs : Finset (DevRef τ sig) := {Proc.devRef .tc main_v1, Proc.devRef .tc main_v2}

/-- They are among the unscoped ones. -/
theorem bufs_sub : bufs ⊆ Pipeline.ucRefs τ sig := by
  intro b hb
  rcases Finset.mem_insert.mp hb with rfl | hb
  · exact Finset.mem_filter.mpr ⟨StableHlo.devRef_mem_tcRefs main_v1, by decide⟩
  · rw [Finset.mem_singleton.mp hb]
    exact Finset.mem_filter.mpr ⟨StableHlo.devRef_mem_tcRefs main_v2, by decide⟩

/-- Holding them is holding each. -/
theorem bufs_eq (c : Dev nD) (W : Valuation τ sig (Elt F)) : (StableHlo.held (c : Thread nD τ) bufs W : sProp 𝕄)
    = iprop(((c : Thread nD τ).loc main_v1 ↦{fullShare} W main_v1) ∗ ((c : Thread nD τ).loc main_v2 ↦{fullShare} W main_v2)) := by
  unfold StableHlo.held bufs
  rw [bigSep_insert (by decide), bigSep_singleton]
  rfl

/-- The call leaves the own chunk. -/
theorem V2_chunk (c : Dev nD) : V2 m (outs m) c main_v1 = chunks m c := by
  show Function.update (Function.update (V1 m c) main_v1 (outs m 2 main_v1 c)) main_v2 (outs m 2 main_v2 c) main_v1 = _
  rw [Function.update_of_ne (StableHlo.devRef_ne_of_ne (by decide)), Function.update_self]
  exact dif_neg (by decide)

/-- The call leaves the gathered array. -/
theorem V2_gath (c : Dev nD) : V2 m (outs m) c main_v2 = gath (chunks m) c := by
  show Function.update (Function.update (V1 m c) main_v1 (outs m 2 main_v1 c)) main_v2 (outs m 2 main_v2 c) main_v2 = _
  rw [Function.update_self]
  exact dif_pos rfl

/-- Off the two arrays it leaves everything. -/
theorem V2_rest (c : Dev nD) : ∀ b ∈ Pipeline.ucRefs τ sig \ bufs, V2 m (outs m) c b = V1 m c b := by
  intro b hb
  have hn := (Finset.mem_sdiff.mp hb).2
  show Function.update (Function.update (V1 m c) main_v1 (outs m 2 main_v1 c)) main_v2 (outs m 2 main_v2 c) b = _
  rw [Function.update_of_ne (fun h => hn (by rw [h]; exact Finset.mem_insert_of_mem (Finset.mem_singleton_self _))),
    Function.update_of_ne (fun h => hn (by rw [h]; exact Finset.mem_insert_self _ _))]

/-! ## The protocol's state around the call -/

/-- The kernel's own semaphores: all DMA semaphores. -/
abbrev osem0 : DmaSem sig → SemLoc sig := fun s => .dma s

/-- What of its own a core brings to the call, beside the cells it opens there: its barrier position, the tokens of what it pays, its credits. -/
def dealt (c : Dev nD) : sProp 𝕄 :=
  iprop(atPos ER (barC c) 0 ∅ 0
    ∗ (dutyTok ER (barC (nxt true c)) 0 false ∗ dutyTok ER (barC (nxt false c)) 0 true)
    ∗ (dutyTok ER (seedC c) 0 false
      ∗ ((bigSep Finset.univ fun h : Fin 7 => dutyTok ER (sndC false h c) 0 false) ∗ bigSep Finset.univ fun h : Fin 7 => dutyTok ER (sndC true h c) 0 false)
      ∗ ((bigSep Finset.univ fun h : Fin 7 => dutyTok ER (rcvC false h (nxt false c)) 0 false) ∗ bigSep Finset.univ fun h : Fin 7 => dutyTok ER (rcvC true h (nxt true c)) 0 false)))

/-- Its credits: two units on its barrier cell, a half slot's on each receive cell. -/
def credits (c : Dev nD) : sProp 𝕄 :=
  iprop(cred (tallyAt (barC c) () 2)
    ∗ (bigSep Finset.univ fun h : Fin 7 => cred (tallyAt (rcvC false h c) () NH)) ∗ bigSep Finset.univ fun h : Fin 7 => cred (tallyAt (rcvC true h c) () NH))

/-- What every core may consult: all invariants, and that every barrier cell stands at its round. -/
def records (K : GSem nD τ sig → ℕ) : sProp 𝕄 := iprop(allInv (chunks m) K ∗ bigSep barCells fun g => reached ER g 0)

instance records_persistent (K : GSem nD τ sig → ℕ) : BI.Persistent (records m K) := by unfold records; infer_instance

/-- A barrier cell stands at its round. -/
theorem reached_bar (c : Dev nD) : (bigSep barCells fun g => (reached ER g 0 : sProp 𝕄)) ⊢ reached ER (barC c) 0 :=
  bigSep_elim (Finset.mem_map_of_mem barEmb (Finset.mem_univ c))

/-- Up to the call. -/
def Tk (c : Dev nD) : sProp 𝕄 := iprop((∃ K, records m K ∗ dealt c ∗ bigSep Finset.univ fun s : DmaSem sig => openTok ER ((c : Thread nD τ), .dma s)) ∗ credits c)
/-- In the call, the cells open. -/
def Xk (c : Dev nD) : sProp 𝕄 :=
  iprop((∃ K, records m K ∗ dealt c ∗ bigSep Finset.univ fun s : DmaSem sig => iprop(atPos ER ((c : Thread nD τ), .dma s) 0 ∅ 0 ∗ reached ER ((c : Thread nD τ), .dma s) 0))
    ∗ credits c ∗ levAts L lv)
/-- After it. -/
def Yk (c : Dev nD) : sProp 𝕄 := semVal (barC c) 0

/-- One cell opens. -/
theorem open_one (K : GSem nD τ sig → ℕ) (c : Dev nD) (s : DmaSem sig) :
    iprop(records m K ∗ (openTok ER ((c : Thread nD τ), .dma s) ∗ semVal ((c : Thread nD τ), .dma s) 0))
      ⊢ (|={Set.univ}=> iprop(atPos ER ((c : Thread nD τ), .dma s) 0 ∅ 0 ∗ reached ER ((c : Thread nD τ), .dma s) 0) : sProp 𝕄) := by
  unfold records
  iintro ⟨⟨#HI, -⟩, Ho, Hs⟩
  iapply (Rounds.cell_open ER (ringRd (chunks m)) (g := ((c : Thread nD τ), .dma s)) (Set.mem_univ (K ((c : Thread nD τ), .dma s))))
  isplitr; · iapply (inv_dma (chunks m) K c s); iexact HI
  isplitl [Ho]; · iexact Ho
  iexact Hs

/-- The call opens the cells of its own semaphores. -/
theorem hopen0 (c : Dev nD) : iprop(Tk m c ∗ Pipeline.ownSems0 osem0 c ∗ levAts L lv) ⊢ (|={Set.univ}=> Xk m c : sProp 𝕄) := by
  unfold Tk Xk Pipeline.ownSems0
  iintro ⟨⟨⟨%K, #HR, Hd, Ho⟩, Hc⟩, Hs, #Hl⟩
  imod ((show iprop(records m K ∗ bigSep Finset.univ fun s : DmaSem sig => iprop(openTok ER ((c : Thread nD τ), .dma s) ∗ semVal ((c : Thread nD τ), .dma s) 0)) ⊢ _ from
    (bigSep_with_persistent (R := records m K) fun s _ => open_one m K c s).trans (bigSep_fupd _ _))) $$ [Ho Hs] with Ha
  · isplitr; · iexact HR
    iapply (Entails.of_eq (bigSep_sep' _ _ _).symm)
    isplitl [Ho]; · iexact Ho
    iexact Hs
  imodintro
  isplitl [Hd Ha]
  · iexists K
    isplitr; · iexact HR
    isplitl [Hd]; · iexact Hd
    iexact Ha
  isplitl [Hc]; · iexact Hc
  iexact Hl

/-- What a hop needs of the core's own, from what the call deals. -/
theorem legBase_intro (c : Dev nD) (d : Bool) (h : Fin 7) :
    iprop((atPos ER (sndC d h c) 0 ∅ 0 ∗ reached ER (sndC d h c) 0) ∗ atPos ER (rcvC d h c) 0 ∅ 0 ∗ dutyTok ER (sndC d h c) 0 false
      ∗ dutyTok ER (rcvC d h (nxt d c)) 0 false ∗ cred (tallyAt (rcvC d h c) () NH)) ⊢ (legBase c d h : sProp 𝕄) := by
  unfold legBase
  iintro ⟨⟨H1, H4⟩, H2, H3, H5, H6⟩
  isplitl [H1]; · iexact H1
  isplitl [H2]; · iexact H2
  isplitl [H3]; · iexact H3
  isplitl [H4]; · iexact H4
  isplitl [H5]; · iexact H5
  iexact H6

/-- All the body needs, from the call's state and the two arrays. -/
theorem bodyPre_intro (c : Dev nD) :
    iprop(Xk m c ∗ StableHlo.held (c : Thread nD τ) bufs (V1 m c)) ⊢ iprop(∃ K, bodyPre (chunks m) K c) := by
  have hleg (d : Bool) : iprop((bigSep Finset.univ fun h : Fin 7 => iprop(atPos ER (sndC d h c) 0 ∅ 0 ∗ reached ER (sndC d h c) 0))
      ∗ (bigSep Finset.univ fun h : Fin 7 => atPos ER (rcvC d h c) 0 ∅ 0) ∗ (bigSep Finset.univ fun h : Fin 7 => dutyTok ER (sndC d h c) 0 false)
      ∗ (bigSep Finset.univ fun h : Fin 7 => dutyTok ER (rcvC d h (nxt d c)) 0 false) ∗ bigSep Finset.univ fun h : Fin 7 => cred (tallyAt (rcvC d h c) () NH))
      ⊢ (bigSep Finset.univ fun h : Fin 7 => legBase c d h : sProp 𝕄) := by
    rw [← bigSep_sep', ← bigSep_sep', ← bigSep_sep', ← bigSep_sep']
    exact bigSep_mono fun h _ => legBase_intro c d h
  have hslots (d : Bool) : iprop((bigSep Finset.univ fun h : Fin 7 => iprop(∃ f, bp c (slot d h.succ) d f)) ∗ bigSep Finset.univ fun h : Fin 7 => reached ER (rcvC d h c) 0)
      ⊢ (mySlots c d : sProp 𝕄) := by
    unfold mySlots
    rw [← bigSep_sep']
  unfold Xk records dealt credits bodyPre
  rw [bufs_eq, bigSep_sems, bigSep_sep' (Φ := fun h : Fin 7 => atPos ER (rcvC false h c) 0 ∅ 0), bigSep_sep' (Φ := fun h : Fin 7 => atPos ER (rcvC true h c) 0 ∅ 0), ← chunk_eq (chunks m) c]
  iintro ⟨⟨⟨%K, ⟨#HI, #HR⟩, ⟨Hb, ⟨Ht0, Ht1⟩, Hts, ⟨Hs0, Hs1⟩, ⟨Hr0, Hr1⟩⟩, ⟨Hseed, Hseedr⟩, ⟨Ha0, Ha1⟩, ⟨⟨Hv0, Hw0⟩, ⟨Hv1, Hw1⟩⟩⟩, ⟨Hcb, Hc0, Hc1⟩, #Hl⟩, Hx, Hg⟩
  ihave Hg' := (split_before c _) $$ Hg
  icases Hg' with ⟨Hsp, Hg0, Hg1⟩
  iexists K
  isplitr; · iexact HI
  isplitr; · iexact Hl
  isplitl [Ht0 Hg0 Hw0]
  · isplitl [Ht0]; · iexact Ht0
    isplitr; · iapply (reached_bar (F := F) (nxt true c)); iexact HR
    iapply (hslots false)
    isplitl [Hg0]; · iexact Hg0
    iexact Hw0
  isplitl [Ht1 Hg1 Hw1]
  · isplitl [Ht1]; · iexact Ht1
    isplitr; · iapply (reached_bar (F := F) (nxt false c)); iexact HR
    iapply (hslots true)
    isplitl [Hg1]; · iexact Hg1
    iexact Hw1
  isplitl [Hcb Hb]
  · isplitl [Hcb]; · iexact Hcb
    iexact Hb
  isplitl [Hsp Hx Hseed Hts Hseedr]
  · isplitl [Hsp]; · iexact Hsp
    isplitl [Hx]; · iexact Hx
    isplitl [Hseed]; · iexact Hseed
    isplitl [Hts]; · iexact Hts
    iexact Hseedr
  isplitl [Ha0 Hv0 Hs0 Hr0 Hc0]
  · iapply (hleg false)
    isplitl [Ha0]; · iexact Ha0
    isplitl [Hv0]; · iexact Hv0
    isplitl [Hs0]; · iexact Hs0
    isplitl [Hr0]; · iexact Hr0
    iexact Hc0
  · iapply (hleg true)
    isplitl [Ha1]; · iexact Ha1
    isplitl [Hv1]; · iexact Hv1
    isplitl [Hs1]; · iexact Hs1
    isplitl [Hr1]; · iexact Hr1
    iexact Hc1

/-- What the body leaves: every counter at zero, the own chunk, and the gathered array. -/
theorem bodyPost_elim (c : Dev nD) :
    (bodyPost (chunks m) c : sProp 𝕄) ⊢ iprop(StableHlo.held (c : Thread nD τ) bufs (V2 m (outs m) c) ∗ Pipeline.ownSems0 osem0 c ∗ Yk c) := by
  unfold bodyPost Pipeline.ownSems0 Yk legsPost legPost
  rw [bufs_eq, V2_chunk, V2_gath, ← chunk_eq (chunks m) c, bigSep_sems]
  rw [bigSep_sep', bigSep_sep', bigSep_sep', bigSep_sep', bigSep_sep']
  iintro ⟨Hb, Hs, Hx, ⟨⟨Hs0, Hr0, Hf⟩, ⟨Hs1, Hr1, Ht⟩⟩, Hc⟩
  isplitl [Hx Hf Ht Hc]
  · isplitl [Hx]; · iexact Hx
    iapply (join_after (chunks m) c)
    isplitl [Hf]; · iexact Hf
    isplitl [Ht]; · iexact Ht
    iexact Hc
  isplitr [Hb]
  · isplitl [Hs]; · iexact Hs
    isplitl [Hs0 Hs1]
    · isplitl [Hs0]; · iexact Hs0
      iexact Hs1
    · isplitl [Hr0]; · iexact Hr0
      iexact Hr1
  iexact Hb

/-! ## The body's obligation -/

/-- What enters the body. -/
def X0 (c : Dev nD) : sProp 𝕄 := iprop(Xk m c ∗ StableHlo.held (c : Thread nD τ) bufs (V1 m c) ∗ ∃ r, prngReg c r)
/-- What leaves it. -/
def Y0 (c : Dev nD) : sProp 𝕄 := iprop((StableHlo.held (c : Thread nD τ) bufs (V2 m (outs m) c) ∗ Pipeline.ownSems0 osem0 c ∗ Yk c) ∗ ∃ r, prngReg c r)

/-- The call's proof data: one point, owing everything before it and nothing after. -/
def dat0 (c : Dev nD) : Dat τ (Elt F) Unit ℕ UU ℕ cfg0 c where
  A w := w.elim0
  after w := w.elim0
  Φ t := if t.val = 0 then X0 m c else Y0 m c
  q w := w.elim0
  owed t := if t.val = 0 then O₀ c else 0

/-- The program's one call's. -/
def pdats : (p : Fin 1) → (c : Dev nD) → Dat τ (Elt F) Unit ℕ UU ℕ (cfgs p) c
  | 0 => dat0 m

/-- Owing within the bound is owing. -/
theorem owesAt_elim (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin
  rw [h]
  iintro ⟨%W, -, HO⟩
  iexists W
  iexact HO

/-- Owing is owing within the bound, which is none. -/
theorem owesAt_intro (c : Dev nD) (t : Fin (cfg0.N + 1)) (O : CellTallies nD τ sig Unit) (h : (dat0 m c).owed t = O) (W : Waits sig Unit) :
    (owes (c : Thread nD τ) O W : sProp 𝕄) ⊢ ((dat0 m c).owesAt () t : sProp 𝕄) := by
  unfold Dat.owesAt Pipeline.owesWithin Dat.bound
  rw [h, show (dat0 m c).recorded t = Set.univ from rfl]
  iintro HO
  iexists W
  isplitr; · ipureintro; exact fun _ _ => Or.inl trivial
  iexact HO

/-- No window, nothing held for one. -/
theorem no_windows {M : Type} [URA M] (Φ : Fin 0 → sProp M) : bigSep Finset.univ Φ = (BI.emp : sProp M) :=
  bigSep_univ_eq_bigSepL [] (by decide) (by decide) Φ

/-- The last point. -/
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]
/-- The first point. -/
theorem owed_first (c : Dev nD) : (pdats (F := F) m 0 c).owed 0 = O₀ c := by
  show (if ((0 : Fin (cfg0.N + 1)).val = 0) then O₀ c else 0) = O₀ c; exact if_pos rfl

/-- The body meets its obligation. -/
theorem body0 (c : Dev nD) : BodyObligation (dat0 (F := F) m c) defs₀ 𝒱₀ () Set.univ := fun t => by
  obtain rfl := fin_N0 t
  rw [no_windows, no_windows]
  rw [show (dat0 m c).Φ t0_0.castSucc = X0 m c from rfl, show (dat0 m c).Φ t0_0.succ = Y0 m c from rfl]
  unfold X0 Y0
  iintro ⟨⟨HX, Hh, Hp⟩, HO, -⟩
  ihave HO' := (owesAt_elim m c _ (O₀ c) rfl) $$ HO
  icases HO' with ⟨%W, HO⟩
  ihave HP := (bodyPre_intro m c) $$ [HX Hh]
  · isplitl [HX]; · iexact HX
    iexact Hh
  icases HP with ⟨%K, HP⟩
  iapply (body_run (chunks m) K c W _)
  isplitl [HP]; · iexact HP
  isplitl [HO]; · iexact HO
  iintro %W' ⟨HP, HO⟩
  isplitr [HO]
  · isplitl [HP]; · iapply (bodyPost_elim m c); iexact HP
    iexact Hp
  isplitl [HO]; · iapply (owesAt_intro m c t0_0.succ 0 (owed_last m c) W'); iexact HO
  iempintro

/-! ## The segment -/

/-- The call's layout facts. -/
theorem kit0 : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

/-- Whatever is owed at any point has a level above none. -/
theorem owed_levels (c : Dev nD) (t : Fin (cfg0.N + 1)) (g : GSem nD τ sig) (i : Unit) (h : 0 < (dat0 (F := F) m c).owed t g i) : i ∈ L g ∧ 0 < lv g i := by
  rw [show (dat0 (F := F) m c).owed t = if t.val = 0 then O₀ c else 0 from rfl] at h
  split at h
  · unfold O₀ at h
    rw [Pi.add_apply, Finsupp.add_apply, Pi.add_apply, Finsupp.add_apply] at h
    rcases Nat.add_pos_iff_pos_or_pos.mp h with h | h
    · rcases Nat.add_pos_iff_pos_or_pos.mp h with h | h
      · obtain ⟨d, j, rfl, -⟩ := owed_pos c g i 7 (le_refl _) h
        refine ⟨by rw [L_tc]; exact Finset.mem_singleton_self _, ?_⟩
        show 0 < lvOf (.dma (rcvS d j))
        rw [lv_rcv]; omega
      · rw [tallyAt_pos' h]
        exact ⟨by rw [L_tc]; exact Finset.mem_singleton_self _, Nat.one_pos⟩
    · rw [tallyAt_pos' h]
      exact ⟨by rw [L_tc]; exact Finset.mem_singleton_self _, Nat.one_pos⟩
  · exact absurd h (Nat.lt_irrefl 0)

/-- Into the body. -/
theorem hin0 (c : Dev nD) : iprop(Pipeline.scopedRest (cfgs 0).spec c ∗ (∃ r, prngReg c r) ∗ StableHlo.held (c.tc : Thread nD τ) bufs (V1 m c) ∗ Xk m c)
    ⊢ (pdats m 0 c).Φ 0 := by
  rw [show (pdats m 0 c).Φ 0 = X0 m c from rfl]
  unfold X0
  iintro ⟨-, Hp, Hh, HX⟩
  isplitl [HX]; · iexact HX
  isplitl [Hh]; · iexact Hh
  iexact Hp

/-- Out of the body. -/
theorem hout0 (c : Dev nD) : (pdats m 0 c).Φ (Fin.last (cfgs 0).N)
    ⊢ iprop(Pipeline.scopedRest (cfgs 0).spec c ∗ (∃ r, prngReg c r) ∗ StableHlo.held (c.tc : Thread nD τ) bufs (V2 m (outs m) c) ∗ Pipeline.ownSems0 osem0 c ∗ Yk c) := by
  rw [show (pdats m 0 c).Φ (Fin.last _) = Y0 m c from rfl, show (Pipeline.scopedRest (cfgs 0).spec c : sProp 𝕄) = BI.emp from scopedRest0_eq c]
  unfold Y0
  iintro ⟨⟨Hh, Hs, HY⟩, Hp⟩
  isplitr; · iempintro
  isplitl [Hp]; · iexact Hp
  isplitl [Hh]; · iexact Hh
  isplitl [Hs]; · iexact Hs
  iexact HY

set_option backward.isDefEq.respectTransparency.types false in
/-- The call as a segment. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem0 (by decide : Pipeline.OwnSemFacts (cfg0.spec) osem0)
    bufs (Pipeline.ucRefs τ sig) bufs_sub kit0 rfl (fun c => (body0 m c).loose)
    (fun _ => 0) O₀ (fun c => (owed_first m c).trans (zero_add _).symm) (owed_last m) (fun _ => rfl) (fun _ w => w.elim0)
    (V1 m) (V2 m (outs m)) (V2_rest m)
    (Tk m) Yk (Xk m) Yk (hopen0 m) (hin0 m) (hout0 m)
    (fun c => by iintro H; imodintro; iexact H)
    (fun _ => 0)
    ⟨fun _ w => w.elim0, fun _ w => w.elim0, fun c t g i h => owed_levels m c t g i h⟩
    (fun _ => iprop(emp))
    (fun _ w => w.elim0) (fun _ w => w.elim0)

/-- What rides beside the unscoped buffers: before the call the protocol's state and all that is owed, after it the barrier counter at zero and nothing owed. -/
def E (i : Fin 2) (c : Dev nD) : sProp 𝕄 :=
  if i = 0 then iprop((∃ r, prngReg c r) ∗ Tk m c ∗ ∃ W, owes (c : Thread nD τ) (O₀ c) W)
  else iprop(semVal (barC c) 0 ∗ ∃ W, owes (c : Thread nD τ) (0 : CellTallies nD τ sig Unit) W)

/-- No window's array. -/
theorem held_arr (c : Dev nD) (W : Valuation τ sig (Elt F)) :
    (StableHlo.held (c.tc : Thread nD τ) (Pipeline.arrRefs (τ := τ) (pcfgs (F := F) 0).spec) W : sProp 𝕄) = BI.emp := by
  rw [show Pipeline.arrRefs (τ := τ) (pcfgs (F := F) 0).spec = ∅ from by
    unfold Pipeline.arrRefs
    rw [Finset.map_eq_empty, Finset.image_eq_empty, Finset.univ_eq_empty]]
  exact bigSep_empty

/-- Into the call. -/
theorem reg0_pre (c : Dev nD) : iprop(StableHlo.held (c : Thread nD τ) (Pipeline.ucRefs τ sig) (V1 m c) ∗ E m 0 c) ⊢ (reg0 m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (Pipeline.ucRefs τ sig) (V1 m c) ∗ emp) ∗ Tk m c ∗ ∃ Wd, owes (c : Thread nD τ) (0 + O₀ c) Wd)
  rw [held_arr, zero_add, show E m 0 c = iprop((∃ r, prngReg c r) ∗ Tk m c ∗ ∃ W, owes (c : Thread nD τ) (O₀ c) W) from if_pos rfl]
  iintro ⟨Hh, Hp, HT, HO⟩
  isplitr; · iempintro
  isplitl [Hp]; · iexact Hp
  isplitl [Hh]
  · isplitl [Hh]; · iexact Hh
    iempintro
  isplitl [HT]; · iexact HT
  iexact HO

/-- Out of the call. -/
theorem reg0_post (c : Dev nD) : (reg0 m).post c ⊢ iprop(StableHlo.held (c : Thread nD τ) (Pipeline.ucRefs τ sig) (V2 m (outs m) c) ∗ E m 1 c) := by
  show iprop(StableHlo.held (c.tc : Thread nD τ) (Pipeline.arrRefs (τ := τ) (pcfgs (F := F) 0).spec) (V2 m (outs m) c) ∗ (∃ r, prngReg c r)
    ∗ (StableHlo.held (c.tc : Thread nD τ) (Pipeline.ucRefs τ sig) (V2 m (outs m) c) ∗ emp) ∗ Yk c ∗ ∃ Wd, owes (c : Thread nD τ) (0 : CellTallies nD τ sig Unit) Wd) ⊢ _
  rw [held_arr, show E m 1 c = iprop(semVal (barC c) 0 ∗ ∃ W, owes (c : Thread nD τ) (0 : CellTallies nD τ sig Unit) W) from if_neg (by decide)]
  unfold Yk
  iintro ⟨-, -, ⟨Hh, -⟩, Hb, HO⟩
  isplitl [Hh]; · iexact Hh
  isplitl [Hb]; · iexact Hb
  iexact HO

end Cert.KernelIdeal.Run

end
-- ==== Proof.Launch.lean ====
/-
  The launch: every cell funded, everything dealt, and @main run.
-/
module

public import proofs.«01_k».proof.Proof.Region
public import Idealize.ShloMosaic.Lib.Quiescent

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What is funded -/

/-- A duty of device c: a neighbour's on the barrier, or a copy's. -/
def tokAt (p : Dev nD × (Bool ⊕ DmaSem sig)) : GSem nD τ sig × ℕ × Bool :=
  match p.2 with
  | .inl d => (barC p.1, 0, d)
  | .inr s => (((p.1 : Thread nD τ), .dma s), 0, false)

/-- Different duties have different tokens. -/
theorem tokAt_inj : Function.Injective tokAt := by
  rintro ⟨c, u⟩ ⟨c', u'⟩ h
  have hc : c = c' := by
    rcases u with d | s <;> rcases u' with d' | s' <;> exact congrArg (fun t : GSem nD τ sig × ℕ × Bool => t.1.1.1) h
  subst hc
  rcases u with d | s <;> rcases u' with d' | s'
  · exact congrArg (fun d => (c, Sum.inl d)) (congrArg (fun t : GSem nD τ sig × ℕ × Bool => t.2.2) h)
  · exact absurd (congrArg (fun t : GSem nD τ sig × ℕ × Bool => t.1.2) h) (fun h => nomatch h)
  · exact absurd (congrArg (fun t : GSem nD τ sig × ℕ × Bool => t.1.2) h) (fun h => nomatch h)
  · exact congrArg (fun s => (c, Sum.inr s)) (SemLoc.dma.inj (congrArg (fun t : GSem nD τ sig × ℕ × Bool => t.1.2) h))

/-- All duties. -/
def allToks : Finset (GSem nD τ sig × ℕ × Bool) := Finset.univ.map ⟨tokAt, tokAt_inj⟩

/-- The barrier cells are no DMA cells. -/
theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact absurd (congrArg Prod.snd h) (fun h => nomatch h)

/-- The launch's ghost state: the call's, which has no staging cell, and the ring's. -/
def u₀ : UU :=
  (initOf (Pipeline.cells cfgs cellOf_inj) (Pipeline.launchToks cfgs cellOf_inj), launchOf barCells scCells allToks)

/-- The ring's stands with device 0 until it is dealt. -/
def G (c : Dev nD) : sProp 𝕄 := if c = 0 then BI.own (ER (launchOf barCells scCells allToks)) else iprop(emp)

/-- All devices' is that. -/
theorem bigSep_G : bigSep Finset.univ (G (F := F)) = (BI.own (ER (launchOf barCells scCells allToks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## Dealing the tokens -/

/-- A direction's neighbours, as a permutation of the devices. -/
def ringE (d : Bool) : Dev nD ≃ Dev nD where
  toFun := nxt d
  invFun := nxt (!d)
  left_inv c := nxt_nxt d c
  right_inv c := (congrArg (fun e => nxt e (nxt (!d) c)) (Bool.not_not d).symm).trans (nxt_nxt (!d) c)

/-- A device's tokens, at its own cells. -/
def toks (c : Dev nD) : sProp 𝕄 :=
  iprop((dutyTok ER (barC c) 0 false ∗ dutyTok ER (barC c) 0 true)
    ∗ (dutyTok ER (seedC c) 0 false
      ∗ ((bigSep Finset.univ fun h : Fin 7 => dutyTok ER (sndC false h c) 0 false) ∗ bigSep Finset.univ fun h : Fin 7 => dutyTok ER (sndC true h c) 0 false)
      ∗ ((bigSep Finset.univ fun h : Fin 7 => dutyTok ER (rcvC false h c) 0 false) ∗ bigSep Finset.univ fun h : Fin 7 => dutyTok ER (rcvC true h c) 0 false)))

/-- A device's tokens, of the duties it pays. -/
def paid (c : Dev nD) : sProp 𝕄 :=
  iprop((dutyTok ER (barC (nxt true c)) 0 false ∗ dutyTok ER (barC (nxt false c)) 0 true)
    ∗ (dutyTok ER (seedC c) 0 false
      ∗ ((bigSep Finset.univ fun h : Fin 7 => dutyTok ER (sndC false h c) 0 false) ∗ bigSep Finset.univ fun h : Fin 7 => dutyTok ER (sndC true h c) 0 false)
      ∗ ((bigSep Finset.univ fun h : Fin 7 => dutyTok ER (rcvC false h (nxt false c)) 0 false) ∗ bigSep Finset.univ fun h : Fin 7 => dutyTok ER (rcvC true h (nxt true c)) 0 false)))

/-- The funded tokens, device by device. -/
theorem toks_eq : bigSep allToks (fun t => (dutyTok ER t.1 t.2.1 t.2.2 : sProp 𝕄)) = bigSep Finset.univ fun c : Dev nD => toks c := by
  unfold allToks
  rw [bigSep_map, bigSep_univ_prod]
  refine bigSep_congr fun c _ => ?_
  unfold toks
  rw [bigSep_univ_sum, bigSep_dir, bigSep_sems]
  rfl

/-- Handed round the ring, everyone has those it pays. -/
theorem toks_around : (bigSep Finset.univ fun c : Dev nD => (toks c : sProp 𝕄)) = bigSep Finset.univ fun c : Dev nD => (paid c : sProp 𝕄) := by
  unfold toks paid
  simp only [bigSep_sep']
  rw [bigSep_univ_equiv (ringE true) (fun c : Dev nD => (dutyTok ER (barC c) 0 false : sProp 𝕄)),
    bigSep_univ_equiv (ringE false) (fun c : Dev nD => (dutyTok ER (barC c) 0 true : sProp 𝕄)),
    bigSep_univ_equiv (ringE false) (fun c : Dev nD => (bigSep Finset.univ fun h : Fin 7 => (dutyTok ER (rcvC false h c) 0 false : sProp 𝕄))),
    bigSep_univ_equiv (ringE true) (fun c : Dev nD => (bigSep Finset.univ fun h : Fin 7 => (dutyTok ER (rcvC true h c) 0 false : sProp 𝕄)))]
  rfl

/-! ## The launch credit -/

/-- Receive cells are told apart by device, direction and hop. -/
theorem rcvC_iff (d e : Bool) (h j : Fin 7) (c g : Dev nD) : rcvC e j g = rcvC d h c ↔ e = d ∧ j = h ∧ g = c := by
  constructor
  · intro hh
    have hs : rcvS e j = rcvS d h := SemLoc.dma.inj (congrArg Prod.snd hh)
    have hu := congrArg use hs
    rw [use_rcv, use_rcv] at hu
    injection hu with h1 h2
    exact ⟨h1, h2, congrArg (fun g : GSem nD τ sig => g.1.1) hh⟩
  · rintro ⟨rfl, rfl, rfl⟩; rfl

/-- What one hop's copy owes a receive cell. -/
theorem tR_rcv (d e : Bool) (h j : Fin 7) (c g : Dev nD) : (tR d h c) (rcvC e j g) () = if e = d ∧ j = h ∧ g = nxt d c then NH else 0 := by
  unfold tR
  rw [tallyAt_apply]
  exact if_congr (by rw [rcvC_iff]; exact and_iff_left rfl) rfl rfl

/-- What k hops owe it. -/
theorem owed_rcv (e : Bool) (j : Fin 7) (c g : Dev nD) : ∀ k, k ≤ 7 → owed c k (rcvC e j g) () = if 7 - k ≤ j.val ∧ g = nxt e c then NH else 0
  | 0, _ => by rw [if_neg (fun h => by have := j.isLt; omega)]; rfl
  | k + 1, hk => by
    rw [owed, Pi.add_apply, Finsupp.add_apply, Pi.add_apply, Finsupp.add_apply, owed_rcv e j c g k (by omega), tR_rcv, tR_rcv]
    have hj : j = hp k ↔ j.val = 6 - k := ⟨fun h => congrArg Fin.val h, fun h => Fin.ext h⟩
    have hjl := j.isLt
    by_cases hg : g = nxt e c
    case neg => cases e <;> simp [hg]
    rw [hg]
    cases e <;> simp only [hj, and_true, true_and, false_and, if_false, reduceCtorEq, Nat.add_zero]
    all_goals
      by_cases h1 : j.val = 6 - k
      · rw [if_neg (by omega), if_pos h1, if_pos (by omega), Nat.zero_add]
      · rw [if_neg h1, Nat.add_zero]
        exact if_congr (by omega) rfl rfl

/-- No hop owes a barrier cell. -/
theorem owed_bar (c g : Dev nD) : owed c 7 (barC g) () = 0 := by
  by_contra h
  obtain ⟨d, j, e, -⟩ := owed_pos c (barC g) () 7 (le_refl _) (Nat.pos_of_ne_zero h)
  exact absurd (congrArg Prod.snd e) (fun h => nomatch h)

/-- A signal's unit, at a barrier cell. -/
theorem unit_bar (c g : Dev nD) : (tallyAt (barC c) () 1 : CellTallies nD τ sig Unit) (barC g) () = if g = c then 1 else 0 := by
  rw [tallyAt_apply]
  exact if_congr ⟨fun h => congrArg (fun g : GSem nD τ sig => g.1.1) h.1, fun h => ⟨congrArg barC h, rfl⟩⟩ rfl rfl

/-- A signal's unit is at no DMA cell. -/
theorem unit_dma (c g : Dev nD) (s : DmaSem sig) : (tallyAt (barC c) () 1 : CellTallies nD τ sig Unit) ((g : Thread nD τ), .dma s) () = 0 := by
  rw [tallyAt_apply]
  exact if_neg (fun h => by have := congrArg Prod.snd h.1; exact absurd (show SemLoc.dma s = SemLoc.reg barrier0 from this) (by simp))

/-- Two units reach each barrier cell. -/
theorem launch_bar (c : Dev nD) :
    tallyOn (barC c) (launchCredit (Pipeline.owing O₀) 0 (barC c)) = (tallyAt (barC c) () 2 : CellTallies nD τ sig Unit) := by
  unfold tallyAt
  refine congrArg _ (Finsupp.ext fun u => ?_)
  cases u
  have e (d : Dev nD) : O₀ d (barC c) () = (if c = nxt false d then 1 else 0) + (if c = nxt true d then 1 else 0) := by
    unfold O₀
    rw [Pi.add_apply, Finsupp.add_apply, Pi.add_apply, Finsupp.add_apply, owed_bar, unit_bar, unit_bar, Nat.zero_add]
  rw [Pipeline.launchCredit_owing, Finsupp.single_eq_same, Finset.sum_congr rfl fun d _ => e d]
  clear e
  revert c
  decide

/-- A half slot's credit reaches each receive cell. -/
theorem launch_rcv (e : Bool) (j : Fin 7) (c : Dev nD) :
    tallyOn (rcvC e j c) (launchCredit (Pipeline.owing O₀) 0 (rcvC e j c)) = (tallyAt (rcvC e j c) () NH : CellTallies nD τ sig Unit) := by
  unfold tallyAt
  refine congrArg _ (Finsupp.ext fun u => ?_)
  cases u
  have h (d : Dev nD) : O₀ d (rcvC e j c) () = if d = nxt (!e) c then NH else 0 := by
    unfold O₀
    rw [Pi.add_apply, Finsupp.add_apply, Pi.add_apply, Finsupp.add_apply, owed_rcv e j d c 7 (le_refl _), show (tallyAt (barC (nxt false d)) () 1 : CellTallies nD τ sig Unit) (rcvC e j c) () = 0 from unit_dma _ _ _,
      show (tallyAt (barC (nxt true d)) () 1 : CellTallies nD τ sig Unit) (rcvC e j c) () = 0 from unit_dma _ _ _]
    refine if_congr ?_ rfl rfl
    refine ⟨fun h => ?_, fun h => ⟨Nat.zero_le _, ?_⟩⟩
    · rw [h.2]; exact ((ringE e).left_inv d).symm
    · rw [h]; exact ((ringE e).right_inv c).symm
  rw [Pipeline.launchCredit_owing, Finsupp.single_eq_same, Finset.sum_congr rfl fun d _ => h d, Finset.sum_ite_eq' Finset.univ (nxt (!e) c) fun _ => NH, if_pos (Finset.mem_univ _)]

/-- The DMA semaphores among all. -/
def dmaEmb : DmaSem sig ↪ SemLoc sig := ⟨fun s => .dma s, fun _ _ h => SemLoc.dma.inj h⟩

/-- A cell's launch credit. -/
def lc (g : GSem nD τ sig) : sProp 𝕄 := cred (tallyOn g (launchCredit (Pipeline.owing O₀) 0 g))

/-- Of the DMA cells' credit the receive cells' is what is waited for. -/
theorem creds_pick (c : Dev nD) :
    iprop(lc (seedC c) ∗ ((bigSep Finset.univ fun h : Fin 7 => lc (sndC false h c)) ∗ bigSep Finset.univ fun h : Fin 7 => lc (sndC true h c))
        ∗ ((bigSep Finset.univ fun h : Fin 7 => lc (rcvC false h c)) ∗ bigSep Finset.univ fun h : Fin 7 => lc (rcvC true h c)))
      ⊢ (iprop((bigSep Finset.univ fun h : Fin 7 => cred (tallyAt (rcvC false h c) () NH)) ∗ bigSep Finset.univ fun h : Fin 7 => cred (tallyAt (rcvC true h c) () NH)) : sProp 𝕄) := by
  have e (d : Bool) : (bigSep Finset.univ fun h : Fin 7 => (cred (tallyAt (rcvC d h c) () NH) : sProp 𝕄)) = bigSep Finset.univ fun h : Fin 7 => lc (rcvC d h c) :=
    bigSep_congr fun h _ => congrArg cred (launch_rcv d h c).symm
  rw [e, e]
  iintro ⟨-, -, H⟩
  iexact H

/-- A core's launch credit is what it waits for. -/
theorem creds (c : Dev nD) : (Pipeline.launchCred O₀ c : sProp 𝕄) ⊢ credits c := by
  unfold Pipeline.launchCred credits
  rw [bigSep_univ_at _ (SemLoc.reg barrier0), launch_bar]
  refine sep_mono_right ?_
  have hsub : (Finset.univ.map dmaEmb : Finset (SemLoc sig)) ⊆ Finset.univ.erase (SemLoc.reg barrier0) := fun s hs => by
    obtain ⟨t, -, rfl⟩ := Finset.mem_map.mp hs
    exact Finset.mem_erase.mpr ⟨fun h => absurd (show SemLoc.dma t = SemLoc.reg barrier0 from h) (by simp), Finset.mem_univ _⟩
  refine (bigSep_subset hsub).trans ?_
  rw [bigSep_map, bigSep_sems]
  exact (creds_pick c)

/-! ## The launch -/

/-- The only counter at hand before the call. -/
theorem unscopedSems_eq (c : Dev nD) : (unscopedSems0 c : sProp 𝕄) = semVal (barC c) 0 := by
  unfold unscopedSems0
  rw [show (Finset.univ.filter fun sm : SemLoc sig => ¬ sm.isScoped .tc) = {SemLoc.reg barrier0} from by decide, BI.bigSep_singleton]

/-- No other semaphore outlives the call. -/
theorem unscoped_only : ∀ sm : SemLoc sig, sm.isScoped .tc = false → sm = .reg barrier0 := by decide

/-- What a core starts with. -/
abbrev T₀ (c : Dev nD) : sProp 𝕄 := iprop(StableHlo.held (c : Thread nD τ) (Pipeline.ucRefs τ sig) (V0 m c) ∗ E m 0 c)
/-- What it ends with. -/
abbrev Tₙ (c : Dev nD) : sProp 𝕄 := iprop(StableHlo.held (c : Thread nD τ) (Pipeline.ucRefs τ sig) (V4 m (outs m) c) ∗ semVal (barC c) 0)

/-- What of a core's start is not the ring's. -/
def plain (c : Dev nD) : sProp 𝕄 :=
  iprop(StableHlo.held (c : Thread nD τ) (Pipeline.ucRefs τ sig) (V0 m c) ∗ credits c ∗ owes (c : Thread nD τ) (O₀ c) ∅ ∗ ∃ r, prngReg c r)

/-- What of it is. -/
def share (c : Dev nD) : sProp 𝕄 :=
  iprop(atPos ER (barC c) 0 ∅ 0 ∗ (bigSep Finset.univ fun s : DmaSem sig => openTok ER ((c : Thread nD τ), .dma s)) ∗ paid c)

/-- Together they are the start. -/
theorem T₀_intro (K : GSem nD τ sig → ℕ) (c : Dev nD) : iprop(records m K ∗ (share c ∗ plain m c)) ⊢ T₀ m c := by
  unfold T₀
  rw [show E m 0 c = iprop((∃ r, prngReg c r) ∗ Tk m c ∗ ∃ W, owes (c : Thread nD τ) (O₀ c) W) from if_pos rfl]
  unfold share plain Tk dealt paid
  iintro ⟨#HR, ⟨Ha, Ho, Ht⟩, Hh, Hc, HO, Hp⟩
  isplitl [Hh]; · iexact Hh
  isplitl [Hp]; · iexact Hp
  isplitr [HO]
  · isplitl [Ha Ho Ht]
    · iexists K
      isplitr; · iexact HR
      isplitl [Ha Ht]
      · isplitl [Ha]; · iexact Ha
        iexact Ht
      iexact Ho
    iexact Hc
  iexists ∅
  iexact HO

/-- The launch makes every core's start. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(plain m c ∗ (semVal (barC c) 0 ∗ G c)) : sProp 𝕄) := by
    rw [show unscopedBufs c (fun b => m ((c : Thread nD τ).loc b)) = StableHlo.held (c : Thread nD τ) (Pipeline.ucRefs τ sig) (V0 m c) from Pipeline.unscopedBufs_held c (V0 m c),
      unscopedSems_eq]
    unfold plain
    iintro ⟨Hh, Hus, HO, Hcr, Hp, HG⟩
    isplitl [Hh HO Hcr Hp]
    · isplitl [Hh]; · iexact Hh
      isplitl [Hcr]; · iapply (creds (F := F) c); iexact Hcr
      isplitl [HO]; · iexact HO
      iexists (ρ c); iexact Hp
    isplitl [Hus]; · iexact Hus
    iexact HG
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun s : DmaSem sig => (openTok ER ((c : Thread nD τ), .dma s) : sProp 𝕄)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ iprop((bigSep Finset.univ fun c : Dev nD => plain m c) ∗ (bigSep Finset.univ fun c : Dev nD => semVal (barC c) 0) ∗ bigSep Finset.univ (G (F := F))) from
    (bigSep_mono fun c _ => hcore c).trans (Entails.of_eq ((bigSep_sep' _ _ _).trans (congrArg (BI.sep _) (bigSep_sep' _ _ _))))) $$ H
  icases H' with ⟨HB, Hv, HG⟩
  imod (Rounds.fund_launch ER (ringRd (chunks m)) disjoint_cells (fun g _ h => h) allToks) $$ [Hv HG] with ⟨%K, -, #Hinv, #Hr, Hat, Hopen, Htok⟩
  · isplitl [Hv]
    · iapply hv $$ Hv
    · iapply (Entails.of_eq (bigSep_G (F := F))) $$ HG
  imodintro
  iapply (bigSep_with_persistent (R := records m K) (Φ := fun c => iprop(share c ∗ plain m c)) fun c _ => T₀_intro m K c)
  isplitr
  · unfold records allInv
    isplitr; · iexact Hinv
    iexact Hr
  iapply (Entails.of_eq (bigSep_sep' _ _ _).symm)
  isplitr [HB]
  · unfold share
    iapply (Entails.of_eq (bigSep_sep' _ _ _).symm); isplitl [Hat]; · iapply hat $$ Hat
    iapply (Entails.of_eq (bigSep_sep' _ _ _).symm); isplitl [Hopen]; · iapply hopen $$ Hopen
    iapply (Entails.of_eq (toks_eq.trans (toks_around (F := F)))) $$ Htok
  · iexact HB

set_option backward.isDefEq.respectTransparency.types false in
/-- THE RUN: from any memory with zero counters @main terminates on the eight devices under every fair schedule; then the arguments are as they were,
    the result is what the host stretches make of the gathered array, and every semaphore counter is zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v17) = V4 m (outs m) c main_v17) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (reg0 m))
    (fun c Q => by
      rewrite [main_chain c, Pipeline.Seg.run_eq_chain,
        show (segs m (outs m) 𝒱₀ L lv (E m) () (pdats m) (reg0 m) c).map Pipeline.Seg.prog = [
          StableHlo.seq hostOps0,
          Prog.lift (.customCall (Pipeline.entry 0) ()),
          StableHlo.seq (hostOps1 c),
          StableHlo.seq hostOps1_1 ] from rfl]
      dsimp (config := { failIfUnchanged := false }) only
      exact .rfl)
    (fun c => by simp only [segs, Pipeline.Seg.pipes_host, Pipeline.Seg.pipes_region, Pipeline.Seg.pipes_nil]; decide)
    O₀ L_of_ne G u₀ ?_ (T₀ := T₀ m) (Tₙ := Tₙ m)
    (hch := fun c => ⟨.rfl, reg0_pre m c, reg0_post m c, .rfl, ?_⟩)
    (hinit := init m ρ)
    (QY := fun c s => (s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_v17) = V4 m (outs m) c main_v17) ∧ s.sem (barC c) = 0)
    (hfin := fun c s' => ?_)
    (hQ := fun s h hs => ⟨fun c => (h c).1, sem_eq_zero hs fun c sm hsm => by
        obtain rfl := unscoped_only sm hsm
        exact (h c).2⟩)
  · unfold u₀
    rw [bigSep_G]
    iintro Hu
    ihave H := (ownU_pair _ _) $$ Hu
    icases H with ⟨HP, HX⟩
    imodintro
    isplitl [HP]; · iexact HP
    iexact HX
  · show iprop(StableHlo.held (c : Thread nD τ) (Pipeline.ucRefs τ sig) (V4 m (outs m) c) ∗ E m 1 c)
      ⊢ iprop(Tₙ m c ∗ ∃ W, owes (c : Thread nD τ) (0 : CellTallies nD τ sig Unit) W)
    rw [show E m 1 c = iprop(semVal (barC c) 0 ∗ ∃ W, owes (c : Thread nD τ) (0 : CellTallies nD τ sig Unit) W) from if_neg (by decide)]
    iintro ⟨Hh, Hb, HO⟩
    isplitr [HO]
    · isplitl [Hh]; · iexact Hh
      iexact Hb
    iexact HO
  · unfold Tₙ StableHlo.held
    iintro ⟨⟨Hh, Hb⟩, HSI⟩
    icombine HSI Hb gives %hb
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      have hr (r : Ref sig .tc) (hr : ¬ (Proc.devRef .tc r : DevRef τ sig).isScoped) := h (Proc.devRef .tc r) (Finset.mem_filter.mpr ⟨StableHlo.devRef_mem_tcRefs r, hr⟩)
      exact ⟨⟨(hr main_arg0 (by decide)).trans (V4_main_arg0 m (outs m) c), (hr main_arg1 (by decide)).trans (V4_main_arg1 m (outs m) c), hr main_v17 (by decide)⟩,
        by simpa using hb⟩
    iexact HSI

end Cert.KernelIdeal.Run

end
-- ==== Proof.Roll.lean ====
/-
  The host's roll of the result, read at an index.
-/
module

public import proofs.«01_k».proof.Proof.Launch
public import Idealize.ShloMosaic.Lib.StableHlo.RunRead
public import Idealize.ShloMosaic.Lib.Pipeline.Value
public import Idealize.ShloMosaic.Lib.Pipeline.Frame
public import Idealize.ShloMosaic.Lib.DynamicIndex

@[expose] public section

noncomputable section

namespace Cert.KernelIdeal.Run

open Idealize.ShloMosaic Idealize.ShloMosaic.TcCoe
open Cert.KernelIdeal.Gen

variable {F : FTy → Type} [FloatOps F]

/-- The remainder of a word by a divisor, as the host computes it. -/
def remWord (s d : BitVec 32) : BitVec 32 :=
  let r := IntOp.remsi .host s d
  Scalar.select (IntOp.andi (IntOp.cmpi .ne (IntOp.cmpi .slt r 0#32) (IntOp.cmpi .slt d 0#32)) (IntOp.cmpi .ne r 0#32)) (IntOp.addi r d) r

/-- The first row of the window, from the remainder. -/
def startWord (r : BitVec 32) : BitVec 32 :=
  let b := IntOp.subi 8192#32 r
  Scalar.select (IntOp.cmpi .slt b 0#32) (IntOp.addi b 16384#32) b

/-- Of device c's shift it is 8192 rows less the shift. -/
theorem startWord_eq : ∀ c : Dev nD, startWord (remWord (BitVec.ofNat 32 (1024 * c.val)) 8192#32) = BitVec.ofNat 32 (8192 - 1024 * c.val) := by decide

/-- Read as an integer it is that number. -/
theorem startInt : ∀ c : Dev nD, (BitVec.ofNat 32 (8192 - 1024 * c.val)).toInt = ((8192 - 1024 * c.val : ℕ) : Int) := by decide

/-- The first ten operations leave the number of rows as divisor. -/
theorem roll_div (V : Valuation τ sig (Elt F)) :
    StableHlo.after (hostOps1_1.take 10) V main_call0_call0_v1 = fun _ => 8192#32 := by
  refine Eq.trans ?_ (congrArg (fun (w : BitVec 32) (_ : S_.Idx) => w)
    (show Scalar.select (IntOp.cmpi .eq (IntOp.maxsi 8192#32 1#32) 0#32) 1#32 (IntOp.maxsi 8192#32 1#32) = 8192#32 by decide))
  unfold hostOps1_1
  simp only [List.take_succ_cons, List.take_zero]
  after_reads_simp
  generalize 8192#32 = n
  generalize 1#32 = o
  generalize 0#32 = z
  rfl

/-- They copy the shift. -/
theorem roll_shift (V : Valuation τ sig (Elt F)) (s : BitVec 32) (hV : V main_v16 = fun _ => s) :
    StableHlo.after (hostOps1_1.take 10) V main_call0_v2 = fun _ => s := by
  unfold hostOps1_1
  simp only [List.take_succ_cons, List.take_zero]
  after_reads_simp
  rw [hV]
  rfl

/-- The next eleven compute the remainder. -/
theorem roll_rem (V : Valuation τ sig (Elt F)) (s d : BitVec 32) (hs : V main_call0_v2 = fun _ => s)
    (hd : V main_call0_call0_v1 = fun _ => d) :
    StableHlo.after ((hostOps1_1.drop 10).take 11) V main_call0_v4 = fun _ => remWord s d := by
  unfold hostOps1_1
  simp only [List.drop_succ_cons, List.drop_zero, List.take_succ_cons, List.take_zero]
  after_reads_simp
  rw [hs, hd]
  rfl

/-- The next nine compute the first row of the window. -/
theorem roll_sub (V : Valuation τ sig (Elt F)) (r : BitVec 32) (hr : V main_call0_v4 = fun _ => r) :
    StableHlo.after ((hostOps1_1.drop 21).take 9) V main_call0_v9 = fun _ => startWord r := by
  unfold hostOps1_1
  simp only [List.drop_succ_cons, List.drop_zero, List.take_succ_cons, List.take_zero]
  after_reads_simp
  rw [hr]
  unfold startWord
  generalize 8192#32 = n
  generalize 16384#32 = o
  generalize 0#32 = z
  rfl

/-- And the result's last coordinate starts at 0. -/
theorem roll_zero (V : Valuation τ sig (Elt F)) :
    StableHlo.after ((hostOps1_1.drop 21).take 9) V main_call0_c_4 = fun _ => 0#32 := by
  unfold hostOps1_1
  simp only [List.drop_succ_cons, List.drop_zero, List.take_succ_cons, List.take_zero]
  after_reads_simp
  rfl

/-- The rows doubled: two copies one above the other. -/
theorem roll_twice (V : Valuation τ sig (Elt F)) :
    StableHlo.after ((hostOps1_1.drop 21).take 9) V main_call0_v5
      = concatenate S16384x512 0 [⟨S8192x512, V main_v11⟩, ⟨S8192x512, V main_v11⟩] concatenates_S8192x512_S8192x512_S16384x512_d0 := by
  unfold hostOps1_1
  simp only [List.drop_succ_cons, List.drop_zero, List.take_succ_cons, List.take_zero]
  rfl

/-- The last operation cuts the window. -/
theorem roll_cut (V : Valuation τ sig (Elt F)) :
    StableHlo.after (hostOps1_1.drop 30) V main_v17
      = Host.dynamicSlice S8192x512 (V main_call0_v5)
          (fun k : Fin 2 => ((![V main_call0_v9, V main_call0_c_4] : Fin 2 → IVec S_ 32) k (Shape.Idx.first h_S_)).toInt) sliceFits_S16384x512_S8192x512 := by
  unfold hostOps1_1
  simp only [List.drop_succ_cons, List.drop_zero]
  after_reads_simp
  refine congrArg (fun z : Fin 2 → Int => Host.dynamicSlice S8192x512 (V main_call0_v5) z sliceFits_S16384x512_S8192x512) ?_
  funext k
  fin_cases k
  · rfl
  · rfl

/-- An operation list runs as its first operations, then the rest. -/
theorem after_cut (l : List (HloOp τ sig (Elt F))) (n : ℕ) (V : Valuation τ sig (Elt F)) :
    StableHlo.after l V = StableHlo.after (l.drop n) (StableHlo.after (l.take n) V) := by
  rw [← StableHlo.after_append, List.take_append_drop]

/-- The first twenty-one operations leave the rows as they are. -/
theorem roll_keep (V : Valuation τ sig (Elt F)) :
    StableHlo.after (hostOps1_1.take 21) V main_v11 = V main_v11 := by
  refine StableHlo.after_unwritten (hostOps1_1_W.take 21) ?_ (by decide) V
  rfl

/-- The result: a window of the doubled rows whose first row is 8192 less the shift. -/
theorem roll_main (V : Valuation τ sig (Elt F)) (c : Dev nD) (hV : V main_v16 = fun _ => BitVec.ofNat 32 (1024 * c.val)) :
    StableHlo.after hostOps1_1 V main_v17
      = Host.dynamicSlice S8192x512
          (concatenate S16384x512 0 [⟨S8192x512, V main_v11⟩, ⟨S8192x512, V main_v11⟩] concatenates_S8192x512_S8192x512_S16384x512_d0)
          (fun k : Fin 2 => ((![8192 - 1024 * c.val, 0] k : ℕ) : Int)) sliceFits_S16384x512_S8192x512 := by
  have e21 : StableHlo.after (hostOps1_1.take 21) V main_call0_v4 = fun _ => remWord (BitVec.ofNat 32 (1024 * c.val)) 8192#32 := by
    rw [after_cut _ 10 V, List.take_take, List.drop_take]
    exact roll_rem _ _ _ (roll_shift V _ hV) (roll_div V)
  have e30 : StableHlo.after (hostOps1_1.take 30) V
      = StableHlo.after ((hostOps1_1.drop 21).take 9) (StableHlo.after (hostOps1_1.take 21) V) := by
    rw [after_cut _ 21 V, List.take_take, List.drop_take]
    rfl
  rw [after_cut _ 30 V, roll_cut, e30, roll_sub _ _ e21, roll_zero, roll_twice, roll_keep, startWord_eq]
  generalize concatenate S16384x512 0 _ _ = w
  have hk : (fun k : Fin 2 => ((![fun _ => BitVec.ofNat 32 (8192 - 1024 * c.val), fun _ => 0#32] : Fin 2 → IVec S_ 32) k (Shape.Idx.first h_S_)).toInt)
      = fun k : Fin 2 => ((![8192 - 1024 * c.val, 0] k : ℕ) : Int) :=
    funext (Fin.forall_fin_two.mpr ⟨startInt c, rfl⟩)
  exact congrArg (fun z : Fin 2 → Int => Host.dynamicSlice S8192x512 w z sliceFits_S16384x512_S8192x512) hk

/-- Row r of the result on device c is row (r + 8192 − 1024·c) mod 8192 before the roll. -/
theorem roll_apply (V : Valuation τ sig (Elt F)) (c : Dev nD) (hV : V main_v16 = fun _ => BitVec.ofNat 32 (1024 * c.val))
    (i j : S8192x512.Idx) (h0 : (j 0).val = ((i 0).val + 8192 - 1024 * c.val) % 8192) (h1 : (j 1).val = (i 1).val) :
    StableHlo.after hostOps1_1 V main_v17 i = V main_v11 j := by
  have hc : c.val < 8 := c.isLt
  have hi : (i 0).val < 8192 := (i 0).isLt
  rw [roll_main V c hV]
  have hS : S16384x512.Slices ![8192 - 1024 * c.val, 0] S8192x512 := ⟨rfl, by
    intro a
    fin_cases a
    · show (8192 - 1024 * c.val) + 8192 ≤ 16384
      omega
    · show 0 + 512 ≤ 512
      omega⟩
  refine (congrFun (Host.dynamicSlice_eq_extractStridedSlice (s := S16384x512) S8192x512 _ _ ![8192 - 1024 * c.val, 0] _ hS (fun _ => rfl)) i).trans ?_
  have hk : (8192 - 1024 * c.val) + (i 0).val < 16384 := by omega
  refine (extractStridedSlice_apply _ _ hS i (Shape.pair (d := ![16384, 512]) ⟨(8192 - 1024 * c.val) + (i 0).val, hk⟩ (i 1)) ?_).trans ?_
  · intro a
    fin_cases a
    · rfl
    · exact (Nat.zero_add _).symm
  by_cases hlt : (8192 - 1024 * c.val) + (i 0).val < 8192
  · refine concatenate_pair_apply_left (t := S16384x512) (s₁ := S8192x512) (s₂ := S8192x512) 0 _ _ _ _ rfl j ?_
    intro b
    fin_cases b
    · exact h0.trans (by show _ = (8192 - 1024 * c.val) + (i 0).val; omega)
    · exact h1
  · refine concatenate_pair_apply_right (t := S16384x512) (s₁ := S8192x512) (s₂ := S8192x512) 0 _ _ _ _ rfl rfl j ?_ ?_
    · intro b hb
      fin_cases b
      · exact absurd rfl hb
      · exact h1
    · show (j 0).val + 8192 = (8192 - 1024 * c.val) + (i 0).val
      omega

end Cert.KernelIdeal.Run

end
-- ==== Proof.Reference.lean ====
/-
  What the reference leaves: the product of the two arrays, each element y of it sent to y / (1 + exp (−y)).
-/
module

public import proofs.«01_k».proof.Proof.Gen.ReferenceIdeal.Value
public import Idealize.ShloMosaic.PureOps.IdealRules
public import Idealize.ShloMosaic.Lib.StackMember
public import Idealize.ShloMosaic.Lib.IdealHost

@[expose] public section

noncomputable section

namespace Cert.ReferenceIdeal.Run

open Idealize.ShloMosaic Idealize.ShloMosaic.TcCoe
open Cert.ReferenceIdeal Cert.ReferenceIdeal.Gen
open Idealize.ShloMosaic.ValueIdx (ix2)

/-- The value y / (1 + exp (−y)) of an extended real y. -/
def silu (y : EReal) : EReal := Ideal.div y (1 + Ideal.exp (-y))

/-- Row r of x against column k of w. -/
def dotAt (x : FVec Ideal ⟨2, ![8192, 8192]⟩ .f32) (w : FVec Ideal ⟨2, ![8192, 4096]⟩ .f32) (r : Fin 8192) (k : Fin 4096) : EReal :=
  ∑ j : Fin 8192, x (ix2 r j) * w (ix2 j k)

variable (m : (ℓ : Loc nD τ sig) → Buf (Elt Ideal) ℓ) (c : Dev nD)

/-- Element (r, k) of the reference's result. -/
def result : FVec Ideal ⟨2, ![8192, 4096]⟩ .f32 := fun i =>
  silu (dotAt (m ((c.tc : Thread nD τ).loc main_arg0)) (m ((c.tc : Thread nD τ).loc main_arg1)) (i 0) (i 1))

/-- The region's one grid point. -/
abbrev t0 : Fin cfg0.N := ⟨0, by decide⟩

/-- Reading the input window's block reads the whole array. -/
theorem read_in (f : Buf (Elt Ideal) ((c : Thread nD τ).loc main_v0)) : (win0_0.blk t0).view.read (Elt Ideal) f = f :=
  Memref.read_access_unit_zero (Elt Ideal) main_v0
    (show (fun a => (win0_0.index t0) a * main_v0.ty.shape.size a) = fun _ => 0 from funext fun _ => Nat.zero_mul _)
    (fun a => by fin_cases a <;> exact (Nat.zero_add _).le) f

/-- And so does reading the output window's block. -/
theorem read_out (f : Buf (Elt Ideal) ((c : Thread nD τ).loc main_v1)) : (win0_1.blk t0).view.read (Elt Ideal) f = f :=
  Memref.read_access_unit_zero (Elt Ideal) main_v1
    (show (fun a => (win0_1.index t0) a * main_v1.ty.shape.size a) = fun _ => 0 from funext fun _ => Nat.zero_mul _)
    (fun a => by fin_cases a <;> exact (Nat.zero_add _).le) f

/-- The region finds the product in its operand. -/
theorem product : V m c main_v0 = (Host.dotGeneral (F := Ideal) (φ₁ := .f32) (φ₂ := .f32) dot_S8192x8192_S8192x4096_S8192x4096_1_0_0_1_n_n none
    (m ((c.tc : Thread nD τ).loc main_arg0)) (m ((c.tc : Thread nD τ).loc main_arg1)) : FVec Ideal S8192x4096 .f32) := rfl

/-- Read at an element it is a row against a column. -/
theorem product_apply (i : S8192x4096.Idx) : V m c main_v0 i
    = dotAt (m ((c.tc : Thread nD τ).loc main_arg0)) (m ((c.tc : Thread nD τ).loc main_arg1)) (i 0) (i 1) := by
  have hi : i = ix2 (i 0) (i 1) := funext (Fin.forall_fin_two.mpr ⟨rfl, rfl⟩)
  rw [product]
  refine (congrArg _ hi).trans ?_
  exact StackMember.dotGeneral_plain_apply none _ _ (i 0) (i 1)

/-- What the one grid point writes back, element by element: clipping to the whole extended line changes nothing. -/
theorem payload (P : Vec Ideal S8192x4096 .f32) (y : S8192x4096.Idx) : Value.E1 P y = silu (P y) := by
  have h0 : Value.ix1_0 y = y := funext (Fin.forall_fin_two.mpr ⟨rfl, rfl⟩)
  have h1 : Value.ix1_1 y = y := funext (Fin.forall_fin_two.mpr ⟨rfl, rfl⟩)
  show Ideal.div (P (Value.ix1_0 y)) (Ideal.ofBits .f32 0x3F800000#32 + Ideal.exp (Ideal.ofBits .f32 0x00000000#32
    - min (Named.named (F := Ideal) κ "hi" (φ := .f32) 0x42700000#32) (max (Named.named (F := Ideal) κ "lo" (φ := .f32) 0xC2700000#32) (P (Value.ix1_1 y))))) = silu (P y)
  rw [h0, h1, IdealRules.named_const.ideal_named_scalar (κ := κ) (name := "hi") _ ⊤ rfl, IdealRules.named_const.ideal_named_scalar (κ := κ) (name := "lo") _ ⊥ rfl,
    Ideal.ofBits_one_f32, Ideal.ofBits_zero_f32, min_eq_right le_top, max_eq_right bot_le, zero_sub]
  rfl

/-- The result array after the run. -/
theorem final : (dats (F := Ideal) m 0 c).arrAt 1 cfg0.N = result m c := by
  refine (read_out c _).symm.trans ((Value.blocks1 m c t0 rfl).trans ?_)
  rw [Value.flushed1]
  have hin : iblk (F := Ideal) m c 0 t0 = V m c main_v0 := read_in c _
  rw [hin]
  funext y
  show out0_1 (V m c main_v0) y = _
  unfold out0_1
  rw [Value.canon1_eq, payload]
  refine congrArg silu (Eq.trans ?_ (product_apply m c y))
  exact congrArg (V m c main_v0) (funext (Fin.forall_fin_two.mpr ⟨Fin.ext (by show 0 + 1 * _ = _; omega), Fin.ext (by show 0 + 1 * _ = _; omega)⟩))

/-- The reference runs, leaves the result and keeps its arguments. -/
theorem run (ρ : Dev nD → PrngReg) : θ_run defs (onTc (τ := τ) (main (F := Ideal))) ⟨m, fun _ => 0, ρ⟩ (fun r =>
    r.2.mem (((0 : Dev nD).tc : Thread nD τ).loc main_v1) = result m 0
    ∧ r.2.mem (((0 : Dev nD).tc : Thread nD τ).loc main_arg0) = m (((0 : Dev nD).tc : Thread nD τ).loc main_arg0)
    ∧ r.2.mem (((0 : Dev nD).tc : Thread nD τ).loc main_arg1) = m (((0 : Dev nD).tc : Thread nD τ).loc main_arg1)) :=
  (θ_run defs _ _).mono (fun _ h => ⟨(h 0).1.trans (final m 0), (h 0).2.1, (h 0).2.2⟩) (Value.run_blocks m ρ)

end Cert.ReferenceIdeal.Run

end
-- ==== Proof.Value.lean ====
/-
  The kernel's result, element by element, over the exact values.
-/
module

public import proofs.«01_k».proof.Proof.Roll
public import proofs.«01_k».proof.Proof.Reference
public import Idealize.ShloMosaic.Lib.Layout

@[expose] public section

noncomputable section

namespace Cert.KernelIdeal.Run

open Idealize.ShloMosaic Idealize.ShloMosaic.TcCoe
open Cert.KernelIdeal.Gen
open Idealize.ShloMosaic.ValueIdx (ix2)
open Cert.ReferenceIdeal.Run (silu dotAt)

/-- The rows the host is to shift by, from the word naming the device. -/
def shiftWord (w : BitVec 32) : BitVec 32 :=
  IntOp.muli (IntOp.remui .host (IntOp.divui .host w 1#32) 8#32) 1024#32

/-- They are 1024 a device. -/
theorem shiftWord_eq : ∀ c : Dev nD, shiftWord c.word = BitVec.ofNat 32 (1024 * c.val) := by decide

variable (m : (ℓ : Loc nD τ sig) → Buf (Elt Ideal) ℓ)

/-- The host computes the shift. -/
theorem shift (c : Dev nD) (W : Valuation τ sig (Elt Ideal)) :
    StableHlo.after (hostOps1 c) W main_v16 = fun _ => BitVec.ofNat 32 (1024 * c.val) := by
  refine Eq.trans ?_ (congrArg (fun (w : BitVec 32) (_ : S_.Idx) => w) (shiftWord_eq c))
  unfold hostOps1
  after_reads_simp
  unfold shiftWord
  generalize c.word = w
  generalize 1#32 = o
  generalize 8#32 = n
  generalize 1024#32 = z
  rfl

/-- The exponential is never negative. -/
theorem exp_nonneg (y : EReal) : 0 ≤ Ideal.exp y := by
  induction y with
  | bot => exact le_rfl
  | top => exact le_top
  | coe r => exact EReal.coe_nonneg.mpr (Real.exp_pos r).le

/-- A product with the reciprocal of 1 + exp (−y) is the quotient. -/
theorem silu_mul (y : EReal) : y * Ideal.div 1 (1 + Ideal.exp (-y)) = silu y := by
  refine Ideal.mul_one_div fun e => ?_
  have h1 : (1 : EReal) ≤ 1 + Ideal.exp (-y) := le_add_of_nonneg_right (exp_nonneg _)
  rw [e] at h1
  exact absurd h1 (by simp)

/-- A row of the gathered array against a column of the device's weights. -/
def part (a : FVec Ideal ⟨2, ![8192, 8192]⟩ .bf16) (b : FVec Ideal ⟨2, ![8192, 512]⟩ .f32) (r : Fin 8192) (k : Fin 512) : EReal :=
  ∑ j : Fin 8192, a (ix2 r j) * b (ix2 j k)

/-- The product the host takes, read at an element. -/
theorem part_eq (a : FVec Ideal ⟨2, ![8192, 8192]⟩ .bf16) (b : FVec Ideal ⟨2, ![8192, 512]⟩ .f32) (j : S8192x512.Idx) :
    Host.dotGeneral dot_S8192x8192_S8192x512_S8192x512_1_0_0_1_n_n none a (truncf .bf16 b bitsLt_bf16_f32) j = part a b (j 0) (j 1) :=
  (congrArg _ (show j = ix2 (j 0) (j 1) from funext (Fin.forall_fin_two.mpr ⟨rfl, rfl⟩))).trans
    (StackMember.dotGeneral_plain_apply none a _ (j 0) (j 1))

/-- An element of the array before the roll. -/
theorem rows_apply (c : Dev nD) (W : Valuation τ sig (Elt Ideal)) (j : S8192x512.Idx) :
    StableHlo.after (hostOps1 c) W main_v11 j = silu (part (W main_v2) (W main_arg1) (j 0) (j 1)) := by
  rw [← part_eq, ← silu_mul, ← Ideal.ofBits_one_f32]
  unfold hostOps1
  after_reads_simp
  generalize 0x3F800000#32 = o
  generalize Host.dotGeneral (F := Ideal) (φ₁ := .bf16) (φ₂ := .bf16) dot_S8192x8192_S8192x512_S8192x512_1_0_0_1_n_n none _ _ = d
  rfl

/-- The row of the gathered array that the roll brings to row r of the result is row r of the whole array. -/
theorem gath_row (x : FVec Ideal ⟨2, ![8192, 8192]⟩ .f32)
    (h : ∀ c : Dev nD, m ((c.tc : Thread nD τ).loc main_arg0) = Layout.block ⟨2, ![1024, 8192]⟩ ⟨2, ![8192, 8192]⟩ 0 8 c x)
    (c : Dev nD) (r ρ : Fin 8192) (k : Fin 8192) (hρ : ρ.val = (r.val + 8192 - 1024 * c.val) % 8192) :
    gath (chunks m) c (ix2 ρ k) = x (ix2 r k) := by
  have hc : c.val < 8 := c.isLt
  have hr := r.isLt
  let e : Dev nD := ⟨r.val / 1024, by show r.val / 1024 < 8; omega⟩
  let y : S1024x8192.Idx := Shape.pair (d := ![1024, 8192]) ⟨r.val % 1024, Nat.mod_lt _ (by decide)⟩ k
  have h0 : owner c (ρ.val / 1024) = e := Fin.ext (by show (c.val + ρ.val / 1024) % 8 = r.val / 1024; omega)
  refine (gath_eq (chunks m) c e (ix2 ρ k) y h0 (by show ρ.val % 1024 = r.val % 1024; omega) rfl).trans ?_
  have hx : chunks m e = m ((e.tc : Thread nD τ).loc main_arg0) := rfl
  rw [hx, h e]
  refine congrArg x (funext (Fin.forall_fin_two.mpr ⟨Fin.ext ?_, Fin.ext ?_⟩))
  · show r.val / 1024 * 1024 + r.val % 1024 = r.val
    omega
  · rfl

/-- THE RESULT: device c leaves its block of columns of what the reference leaves. -/
theorem value (x : FVec Ideal ⟨2, ![8192, 8192]⟩ .f32) (w : FVec Ideal ⟨2, ![8192, 4096]⟩ .f32)
    (hx : ∀ c : Dev nD, m ((c.tc : Thread nD τ).loc main_arg0) = Layout.block ⟨2, ![1024, 8192]⟩ ⟨2, ![8192, 8192]⟩ 0 8 c x)
    (hw : ∀ c : Dev nD, m ((c.tc : Thread nD τ).loc main_arg1) = Layout.block ⟨2, ![8192, 512]⟩ ⟨2, ![8192, 4096]⟩ 1 8 c w) (c : Dev nD) :
    V4 m (outs m) c main_v17 = Layout.block ⟨2, ![8192, 512]⟩ ⟨2, ![8192, 4096]⟩ 1 8 c (fun i => silu (dotAt x w (i 0) (i 1))) := by
  funext i
  have hc : c.val < 8 := c.isLt
  have hi : (i 0).val < 8192 := (i 0).isLt
  let ρ : Fin 8192 := ⟨((i 0).val + 8192 - 1024 * c.val) % 8192, Nat.mod_lt _ (by decide)⟩
  refine (roll_apply (V3 m (outs m) c) c (shift c _) i (ix2 ρ (i 1)) rfl rfl).trans ((rows_apply c _ _).trans ?_)
  refine congrArg silu (Finset.sum_congr rfl fun k _ => congrArg₂ (· * ·) ?_ ?_)
  · rw [V2_gath]
    exact gath_row m x hx c (i 0) ρ k rfl
  · have ha : V2 m (outs m) c main_arg1 = m ((c.tc : Thread nD τ).loc main_arg1) := rfl
    rw [ha, hw c]
    refine congrArg w (funext (Fin.forall_fin_two.mpr ⟨Fin.ext ?_, Fin.ext ?_⟩))
    · rfl
    · rfl

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as printed runs to completion, keeps its arguments and leaves every semaphore at zero. -/
theorem frame_kernel : Cert.quiescent_Kernel := fun m ρ _ =>
  (θ_run Cert.KernelIdeal.defs _ _).mono (fun _ h => ⟨fun c => ⟨(h.1 c).1, (h.1 c).2.1⟩, h.2⟩) (Cert.KernelIdeal.Run.run_main (F := Bits) m ρ)

/-- So does the kernel over the exact values. -/
theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.Run.run_main (F := Ideal) m ρ)

/-- And the reference. -/
theorem frame_reference : Cert.quiescent_ReferenceIdeal := fun m ρ _ => Cert.ReferenceIdeal.Gen.frame m ρ

/-- Device c's result is its block of columns of the reference's. -/
theorem value : Cert.algebraic_KernelIdeal_ReferenceIdeal := fun m ρ m' ρ' _ h =>
  ⟨Cert.ReferenceIdeal.Run.result m' 0,
    (θ_run Cert.KernelIdeal.defs _ _).mono
      (fun _ hr c => ⟨(hr.1 c).2.2.trans (Cert.KernelIdeal.Run.value m _ _ (fun c => (h c).1) (fun c => (h c).2) c), (hr.1 c).1, (hr.1 c).2.1⟩)
      (Cert.KernelIdeal.Run.run_main (F := Ideal) m ρ),
    Cert.ReferenceIdeal.Run.run m' ρ'⟩

/-- The five claims. -/
theorem claim : Cert.Claim :=
  ⟨Cert.Kernel.Gen.facts, Cert.KernelIdeal.Gen.facts, Cert.ReferenceIdeal.Gen.facts,
    frame_kernel, frame_ideal, frame_reference, trivial, value⟩

end Cert.Proof

end
